-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_untied [hKernelIdeal : Cert.KernelIdeal.Facts] [hReferenceIdeal : Cert.ReferenceIdeal.Facts] [hOn_untied : Cert.On_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 100]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v20_0) i = v0 c i)
          ∧ (∀ i : (⟨2, ![4096, 100]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.KernelIdeal.nD Cert.KernelIdeal.τ).loc Cert.KernelIdeal.main_v20_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 100]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_values) i = v0 c i)
          ∧ (∀ i : (⟨2, ![4096, 100]⟩ : Shape).Idx, (Cert.On_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.ReferenceIdeal.nD Cert.ReferenceIdeal.τ).loc Cert.ReferenceIdeal.main_indices) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_untied : Cert.On_untied.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_untied (hKernelIdeal := hKernelIdeal) (hReferenceIdeal := hReferenceIdeal) (hOn_untied := hOn_untied)
-- ==== On_untied.lean ====
abbrev S4096x128 : Shape := ⟨2, ![4096, 128]⟩
abbrev S100000x128 : Shape := ⟨2, ![100000, 128]⟩
abbrev S128x100000 : Shape := ⟨2, ![128, 100000]⟩
abbrev S4096x100000 : Shape := ⟨2, ![4096, 100000]⟩
abbrev S4096x100 : Shape := ⟨2, ![4096, 100]⟩
abbrev S4096x1x100000 : Shape := ⟨3, ![4096, 1, 100000]⟩
abbrev S4096x100x1 : Shape := ⟨3, ![4096, 100, 1]⟩
abbrev S4096x100x100000 : Shape := ⟨3, ![4096, 100, 100000]⟩
abbrev S_ : Shape := ⟨0, ![]⟩

class Facts : Prop where
  transposes_S100000x128_S128x100000_1_0 : S100000x128.Transposes [1, 0] S128x100000
  sliceFits_S4096x100000_S4096x100 : S4096x100000.Slices (fun _ => 0) S4096x100
  bcast_S4096x100000_S4096x1x100000_0_2 : S4096x100000.BroadcastsInDim S4096x1x100000 (![0, 2] : Fin 2 → Fin S4096x1x100000.rank)
  bcast_S4096x100_S4096x100x1_0_1 : S4096x100.BroadcastsInDim S4096x100x1 (![0, 1] : Fin 2 → Fin S4096x100x1.rank)
  bcast_S4096x1x100000_S4096x100x100000_0_1_2 : S4096x1x100000.BroadcastsInDim S4096x100x100000 (![0, 1, 2] : Fin 3 → Fin S4096x100x100000.rank)
  bcast_S4096x100x1_S4096x100x100000_0_1_2 : S4096x100x1.BroadcastsInDim S4096x100x100000 (![0, 1, 2] : Fin 3 → Fin S4096x100x100000.rank)
  natLt_1_32 : 1 < 32
  reducesTo_S4096x100x100000_S4096x100_d2 : S4096x100x100000.ReducesTo [2] S4096x100
  h_S_ : 0 < S_.numel
  bcast_S_S4096x100 : S_.BroadcastsInDim S4096x100 (![] : Fin 0 → Fin S4096x100.rank)
  dot_S4096x128_S128x100000_S4096x100000_1_0_0_1_n_n_wf : DotDims.WF S4096x128 S128x100000 S4096x100000 [1] [0] [0] [1] [] []

variable [Facts]

def dot_S4096x128_S128x100000_S4096x100000_1_0_0_1_n_n : DotDims S4096x128 S128x100000 S4096x100000 where
  lhsContracting := [1]
  rhsContracting := [0]
  lhsNonContracting := [0]
  rhsNonContracting := [1]
  lhsBatch := []
  rhsBatch := []
  wf := dot_S4096x128_S128x100000_S4096x100000_1_0_0_1_n_n_wf
def fn {F : FTy → Type} [FloatOps F] (main_arg0 : FVec F S4096x128 .f32) (main_arg1 : FVec F S100000x128 .f32) : IVec S4096x100 1 × IVec S4096x100 1 :=
  let main_v0 : FVec F S128x100000 .f32 := (transpose S128x100000 [1, 0] · transposes_S100000x128_S128x100000_1_0) main_arg1
  let main_v1 : FVec F S4096x100000 .f32 := (fun l r => Host.dotGeneral dot_S4096x128_S128x100000_S4096x100000_1_0_0_1_n_n none l r) main_arg0 main_v0
  let main_values : FVec F S4096x100 .f32 := (fun x => (Host.topK S4096x100 1 (FloatOps.cmpfTotal .gt) x sliceFits_S4096x100000_S4096x100).1) main_v1
  let main_indices : IVec S4096x100 32 := (fun x => (Host.topK S4096x100 1 (FloatOps.cmpfTotal .gt) x sliceFits_S4096x100000_S4096x100).2) main_v1
  let main_v2 : FVec F S4096x1x100000 .f32 := broadcastInDim S4096x1x100000 ![0, 2] bcast_S4096x100000_S4096x1x100000_0_2 main_v1
  let main_v3 : FVec F S4096x100x1 .f32 := broadcastInDim S4096x100x1 ![0, 1] bcast_S4096x100_S4096x100x1_0_1 main_values
  let main_v4 : FVec F S4096x100x100000 .f32 := broadcastInDim S4096x100x100000 ![0, 1, 2] bcast_S4096x1x100000_S4096x100x100000_0_1_2 main_v2
  let main_v5 : FVec F S4096x100x100000 .f32 := broadcastInDim S4096x100x100000 ![0, 1, 2] bcast_S4096x100x1_S4096x100x100000_0_1_2 main_v3
  let main_v6 : IVec S4096x100x100000 1 := cmpf .oeq main_v4 main_v5
  let main_v7 : IVec S4096x100x100000 32 := (extui 32 · natLt_1_32) main_v6
  let main_c : IVec S_ 32 := constantI S_ 32 0#32
  let main_v8 : IVec S4096x100 32 := (fun x v => Host.reduce IntOp.addi x v reducesTo_S4096x100x100000_S4096x100_d2 h_S_) main_v7 main_c
  let main_c_0 : IVec S_ 1 := constantI S_ 1 1#1
  let main_v9 : IVec S4096x100 1 := broadcastInDim S4096x100 ![] bcast_S_S4096x100 main_c_0
  let main_c_1 : IVec S_ 32 := constantI S_ 32 1#32
  let main_v10 : IVec S4096x100 32 := broadcastInDim S4096x100 ![] bcast_S_S4096x100 main_c_1
  let main_v11 : IVec S4096x100 1 := cmpi .eq main_v8 main_v10
  (main_v9, main_v11)
-- ==== Kernel.lean ====
abbrev S4096x128 : Shape := ⟨2, ![4096, 128]⟩
abbrev S100000x128 : Shape := ⟨2, ![100000, 128]⟩
abbrev S_ : Shape := ⟨0, ![]⟩
abbrev S100352x128 : Shape := ⟨2, ![100352, 128]⟩
abbrev S4096x6272 : Shape := ⟨2, ![4096, 6272]⟩
abbrev S512x128 : Shape := ⟨2, ![512, 128]⟩
abbrev S2048x128 : Shape := ⟨2, ![2048, 128]⟩
abbrev S512x2048 : Shape := ⟨2, ![512, 2048]⟩
abbrev S512x16x128 : Shape := ⟨3, ![512, 16, 128]⟩
abbrev S512x6272 : Shape := ⟨2, ![512, 6272]⟩
abbrev S512 : Shape := ⟨1, ![512]⟩
abbrev S512x1 : Shape := ⟨2, ![512, 1]⟩
abbrev S4096x1 : Shape := ⟨2, ![4096, 1]⟩
abbrev S49x4096x16 : Shape := ⟨3, ![49, 4096, 16]⟩
abbrev S1x512x16 : Shape := ⟨3, ![1, 512, 16]⟩
abbrev S512x1x1 : Shape := ⟨3, ![512, 1, 1]⟩
abbrev S512x1x128 : Shape := ⟨3, ![512, 1, 128]⟩
abbrev S512x512 : Shape := ⟨2, ![512, 512]⟩
abbrev S512x16 : Shape := ⟨2, ![512, 16]⟩
abbrev S4096x49x16 : Shape := ⟨3, ![4096, 49, 16]⟩
abbrev S4096x784 : Shape := ⟨2, ![4096, 784]⟩
abbrev S49x4096x1 : Shape := ⟨3, ![49, 4096, 1]⟩
abbrev S49x4096 : Shape := ⟨2, ![49, 4096]⟩
abbrev S4096x100 : Shape := ⟨2, ![4096, 100]⟩
abbrev S4096x100x1 : Shape := ⟨3, ![4096, 100, 1]⟩
abbrev S1 : Shape := ⟨1, ![1]⟩
abbrev S1x1x1 : Shape := ⟨3, ![1, 1, 1]⟩
abbrev S4096x100352 : Shape := ⟨2, ![4096, 100352]⟩
abbrev S4096x100000 : Shape := ⟨2, ![4096, 100000]⟩

abbrev nBuf : Space → Nat
  | .hbm => 60
  | .vmem => 28
  | .smem => 0
  | _ => 0

abbrev bufTy : (tb : Table) → Fin (tcTables nBuf tb) → BufTy
  | .hbm, ⟨0, _⟩ => ⟨S4096x128, .f32⟩
  | .hbm, ⟨1, _⟩ => ⟨S100000x128, .f32⟩
  | .hbm, ⟨2, _⟩ => ⟨S_, .i32⟩
  | .hbm, ⟨3, _⟩ => ⟨S_, .f32⟩
  | .hbm, ⟨4, _⟩ => ⟨S100352x128, .f32⟩
  | .hbm, ⟨5, _⟩ => ⟨S4096x6272, .f32⟩
  | .hbm, ⟨6, _⟩ => ⟨S4096x128, .f32⟩
  | .hbm, ⟨7, _⟩ => ⟨S4096x1, .f32⟩
  | .hbm, ⟨8, _⟩ => ⟨S4096x128, .f32⟩
  | .hbm, ⟨9, _⟩ => ⟨S49x4096x16, .f32⟩
  | .hbm, ⟨10, _⟩ => ⟨S49x4096x16, .i32⟩
  | .hbm, ⟨11, _⟩ => ⟨S49x4096x16, .i32⟩
  | .hbm, ⟨12, _⟩ => ⟨S4096x49x16, .f32⟩
  | .hbm, ⟨13, _⟩ => ⟨S4096x784, .f32⟩
  | .hbm, ⟨14, _⟩ => ⟨S4096x49x16, .i32⟩
  | .hbm, ⟨15, _⟩ => ⟨S4096x784, .i32⟩
  | .hbm, ⟨16, _⟩ => ⟨S49x4096x1, .i32⟩
  | .hbm, ⟨17, _⟩ => ⟨S49x4096, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S49x4096x1, .i32⟩
  | .hbm, ⟨23, _⟩ => ⟨S49x4096, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i1⟩
  | .hbm, ⟨29, _⟩ => ⟨S_, .i32⟩
  | .hbm, ⟨30, _⟩ => ⟨S4096x100, .f32⟩
  | .hbm, ⟨31, _⟩ => ⟨S4096x100, .i32⟩
  | .hbm, ⟨32, _⟩ => ⟨S4096x100, .f32⟩
  | .hbm, ⟨33, _⟩ => ⟨S4096x100, .i32⟩
  | .hbm, ⟨34, _⟩ => ⟨S_, .i32⟩
  | .hbm, ⟨35, _⟩ => ⟨S4096x100, .i32⟩
  | .hbm, ⟨36, _⟩ => ⟨S4096x100, .i1⟩
  | .hbm, ⟨37, _⟩ => ⟨S_, .i32⟩
  | .hbm, ⟨38, _⟩ => ⟨S4096x100, .i32⟩
  | .hbm, ⟨39, _⟩ => ⟨S4096x100, .i32⟩
  | .hbm, ⟨40, _⟩ => ⟨S4096x100, .i32⟩
  | .hbm, ⟨41, _⟩ => ⟨S4096x100x1, .i32⟩
  | .hbm, ⟨42, _⟩ => ⟨S1, .i32⟩
  | .hbm, ⟨43, _⟩ => ⟨S_, .i32⟩
  | .hbm, ⟨44, _⟩ => ⟨S4096x100x1, .i32⟩
  | .hbm, ⟨45, _⟩ => ⟨S4096x100x1, .i1⟩
  | .hbm, ⟨46, _⟩ => ⟨S1x1x1, .i32⟩
  | .hbm, ⟨47, _⟩ => ⟨S4096x100x1, .i32⟩
  | .hbm, ⟨48, _⟩ => ⟨S4096x100x1, .i1⟩
  | .hbm, ⟨49, _⟩ => ⟨S4096x100x1, .i1⟩
  | .hbm, ⟨50, _⟩ => ⟨S_, .i1⟩
  | .hbm, ⟨51, _⟩ => ⟨S4096x100, .i1⟩
  | .hbm, ⟨52, _⟩ => ⟨S4096x100, .i32⟩
  | .hbm, ⟨53, _⟩ => ⟨S_, .i32⟩
  | .hbm, ⟨54, _⟩ => ⟨S4096x100, .i32⟩
  | .hbm, ⟨55, _⟩ => ⟨S4096x100, .i32⟩
  | .hbm, ⟨56, _⟩ => ⟨S4096x100352, .f32⟩
  | .hbm, ⟨57, _⟩ => ⟨S4096x100000, .f32⟩
  | .hbm, ⟨58, _⟩ => ⟨S4096x100, .f32⟩
  | .hbm, ⟨59, _⟩ => ⟨S4096x100, .i32⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S512x128, .f32⟩
  | .local _ .vmem, ⟨5, _⟩ => ⟨S512x128, .f32⟩
  | .local _ .vmem, ⟨6, _⟩ => ⟨S512x6272, .f32⟩
  | .local _ .vmem, ⟨7, _⟩ => ⟨S512x6272, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S2048x128, .f32⟩
  | .local _ .vmem, ⟨13, _⟩ => ⟨S2048x128, .f32⟩
  | .local _ .vmem, ⟨14, _⟩ => ⟨S512x128, .f32⟩
  | .local _ .vmem, ⟨15, _⟩ => ⟨S512x128, .f32⟩
  | .local _ .vmem, ⟨16, _⟩ => ⟨S1x512x16, .f32⟩
  | .local _ .vmem, ⟨17, _⟩ => ⟨S1x512x16, .f32⟩
  | .local _ .vmem, ⟨18, _⟩ => ⟨S1x512x16, .i32⟩
  | .local _ .vmem, ⟨19, _⟩ => ⟨S1x512x16, .i32⟩
  | .local _ .vmem, ⟨20, _⟩ => ⟨S1x512x16, .i32⟩
  | .local _ .vmem, ⟨21, _⟩ => ⟨S1x512x16, .i32⟩
  | .local _ .vmem, ⟨22, _⟩ => ⟨S512x128, .f32⟩
  | .local _ .vmem, ⟨23, _⟩ => ⟨S512x128, .f32⟩
  | .local _ .vmem, ⟨24, _⟩ => ⟨S2048x128, .f32⟩
  | .local _ .vmem, ⟨25, _⟩ => ⟨S2048x128, .f32⟩
  | .local _ .vmem, ⟨26, _⟩ => ⟨S512x2048, .f32⟩
  | .local _ .vmem, ⟨27, _⟩ => ⟨S512x2048, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_case0b0_values : Ref sig .tc := ⟨.hbm, 32, rfl⟩
abbrev main_case0b0_indices : Ref sig .tc := ⟨.hbm, 33, rfl⟩
abbrev main_case0b0_call1_c : Ref sig .tc := ⟨.hbm, 34, rfl⟩
abbrev main_case0b0_call1_v0 : Ref sig .tc := ⟨.hbm, 35, rfl⟩
abbrev main_case0b0_call1_v1 : Ref sig .tc := ⟨.hbm, 36, rfl⟩
abbrev main_case0b0_call1_c_0 : Ref sig .tc := ⟨.hbm, 37, rfl⟩
abbrev main_case0b0_call1_v2 : Ref sig .tc := ⟨.hbm, 38, rfl⟩
abbrev main_case0b0_call1_v3 : Ref sig .tc := ⟨.hbm, 39, rfl⟩
abbrev main_case0b0_call1_v4 : Ref sig .tc := ⟨.hbm, 40, rfl⟩
abbrev main_case0b0_call1_v5 : Ref sig .tc := ⟨.hbm, 41, rfl⟩
abbrev main_case0b0_call1_c_1 : Ref sig .tc := ⟨.hbm, 42, rfl⟩
abbrev main_case0b0_call1_c_2 : Ref sig .tc := ⟨.hbm, 43, rfl⟩
abbrev main_case0b0_call1_v6 : Ref sig .tc := ⟨.hbm, 44, rfl⟩
abbrev main_case0b0_call1_v7 : Ref sig .tc := ⟨.hbm, 45, rfl⟩
abbrev main_case0b0_call1_v8 : Ref sig .tc := ⟨.hbm, 46, rfl⟩
abbrev main_case0b0_call1_v9 : Ref sig .tc := ⟨.hbm, 47, rfl⟩
abbrev main_case0b0_call1_v10 : Ref sig .tc := ⟨.hbm, 48, rfl⟩
abbrev main_case0b0_call1_v11 : Ref sig .tc := ⟨.hbm, 49, rfl⟩
abbrev main_case0b0_call1_c_3 : Ref sig .tc := ⟨.hbm, 50, rfl⟩
abbrev main_case0b0_call1_v12 : Ref sig .tc := ⟨.hbm, 51, rfl⟩
abbrev main_case0b0_call1_v13 : Ref sig .tc := ⟨.hbm, 52, rfl⟩
abbrev main_case0b0_call1_c_4 : Ref sig .tc := ⟨.hbm, 53, rfl⟩
abbrev main_case0b0_call1_v14 : Ref sig .tc := ⟨.hbm, 54, rfl⟩
abbrev main_case0b0_v21 : Ref sig .tc := ⟨.hbm, 55, rfl⟩
abbrev main_case0b1_v21 : Ref sig .tc := ⟨.hbm, 56, rfl⟩
abbrev main_case0b1_v22 : Ref sig .tc := ⟨.hbm, 57, rfl⟩
abbrev main_case0b1_values : Ref sig .tc := ⟨.hbm, 58, rfl⟩
abbrev main_case0b1_indices : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27

abbrev nD : Nat := 1
abbrev τ : Topo := Topo.v7x

variable {F : FTy → Type} [FloatOps F]

abbrev grid0 : Pipeline.Grid := ⟨2, ![8, 49], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![8], ![false]⟩

@[reducible] def k1_t1_loop : Scf.Loop 32 :=
  let c0_i32 : BitVec 32 := 0#32
  let c99_i32 : BitVec 32 := 99#32
  let v4 : BitVec 32 := Scalar.addi c0_i32 c99_i32
  let c1_i32 : BitVec 32 := 1#32
  ⟨c0_i32, v4, c1_i32⟩
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x6272 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![8, 49], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage2_0 : Fin 2 → Memref sig .tc .vmem S512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x512x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x512x16 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x512x16 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![8, 49], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== ReferenceIdeal.lean ====
abbrev S4096x128 : Shape := ⟨2, ![4096, 128]⟩
abbrev S100000x128 : Shape := ⟨2, ![100000, 128]⟩
abbrev S128x100000 : Shape := ⟨2, ![128, 100000]⟩
abbrev S4096x100000 : Shape := ⟨2, ![4096, 100000]⟩
abbrev S4096x100 : Shape := ⟨2, ![4096, 100]⟩

abbrev nBuf : Space → Nat
  | .hbm => 6
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S100000x128, .f32⟩
  | .hbm, ⟨2, _⟩ => ⟨S128x100000, .f32⟩
  | .hbm, ⟨3, _⟩ => ⟨S4096x100000, .f32⟩
  | .hbm, ⟨4, _⟩ => ⟨S4096x100, .f32⟩
  | .hbm, ⟨5, _⟩ => ⟨S4096x100, .i32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩

abbrev nD : Nat := 1
abbrev τ : Topo := Topo.v7x

variable {F : FTy → Type} [FloatOps F]
-- ==== Proof.BodyI0.lean ====
/- What one grid point of kernel 0 leaves in its output buffers, and the pipeline's proof data, for any contents `V`
   the buffers hold when the kernel is entered. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The certificate's algebra: two copies of the pipeline library's. The first funds the staging cells of every region
    of @main's straight line; the second those of the region inside the branch, which @main enters only when a block overflowed. -/
abbrev UU : Type := IProdConst (Fin 2) (UR sig nD τ) × UR sig nD τ

local notation "𝕄" => MT nD τ sig Unit (Elt F) ℕ UU ℕ

section Regions
variable (V : (c : Dev nD) → (b : Ref sig .tc) → Buf (Elt F) ((c : Thread nD τ).loc b))

/-! # REGION 0 of @main: custom_call 0, `cc0__groupmax_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S512x128 := Rect.unit (s := S512x128) ![0, 0] S512x128.size inb_S512x128_S512x128_0_0
abbrev r0_1 : Rect S2048x128 := Rect.unit (s := S2048x128) ![0, 0] S2048x128.size inb_S2048x128_S2048x128_0_0

/-! ## What the body leaves in each output window's buffer -/

/-- Window 2's staging buffer after the body, from the input windows' blocks: its 1 store as pieces, LAST
    FIRST (Lib/Pipeline/FrameBody.lean `View.canon`; the payloads are the skeleton's). -/
def out0_2 (i : grid0.Coords) (x0 : Vec F S512x128 .f32) (x1 : Vec F S2048x128 .f32) : Vec F S512x128 .f32 :=
  View.canon [⟨r0_0, k0_pay1 i (View.ld x0 r0_0) (View.ld x1 r0_1)⟩]

/-- Its stores tile the buffer (checked by evaluation), so they cover it. -/
theorem cover0_2 (p0 : Vec F S512x128 .f32) (y : S512x128.Idx) :
    ∃ pc ∈ ([⟨r0_0, p0⟩] : List (View.Piece (Elt F) S512x128 .f32)), y ∈ pc.1.set :=
  View.cover_of_tiled [⟨r0_0, p0⟩] S512x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg2 : Memref sig .tc .vmem S512x128 .f32) (harg2 : arg2.IsWhole) (arg3 : Memref sig .tc .vmem S2048x128 .f32) (harg3 : arg3.IsWhole) (arg4 : Memref sig .tc .vmem S512x128 .f32) (harg4 : arg4.IsWhole)
    (x0 : Vec F S512x128 .f32) (x1 : Vec F S2048x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 i x0 x1)) -∗ K ⟨⟩))
      ⊢ wp frame (wpE (defs₀ (F := F)) Variants.none c none) E (cc0__groupmax_body i arg2 harg2 arg3 harg3 arg4 harg4) K := by
  simp only [cc0__groupmax_body_eq_skeleton]; unfold cc0__groupmax_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ UU ℕ cfg0 c where
  A w := V c (Pipeline.arrRef spec0 w)
  after w t := match w with
    | ⟨0, _⟩ => iblk0 V c 0 t
    | ⟨1, _⟩ => iblk0 V c 1 t
    | ⟨2, _⟩ => out0_2 (grid0.coords t) (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (grid0.coords t) (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Hand

end
-- ==== Proof.BodyI1.lean ====
/- What one grid point of kernel 1 leaves in its output buffers, and the pipeline's proof data, for any contents `V`
   the buffers hold when the kernel is entered. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.BodyI0

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Regions
variable (V : (c : Dev nD) → (b : Ref sig .tc) → Buf (Elt F) ((c : Thread nD τ).loc b))

/-! # REGION 1 of @main: custom_call 1, `cc1__kth_body` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 1, through which its contents are stated (`View.read_writes_of_cover`: the
    choice does not matter). -/
abbrev VO1_1 : View sig .tc .vmem S512x128 .f32 := (Memref.whole cc1_stg1_0 : Memref sig .tc .vmem S512x128 .f32).view
/-- Each window's current staging memref at point `t`, spelled as the pipeline passes it (`bodyAt1`), and its wholeness. -/
abbrev ms1_0 (t : Fin cfg1.N) : Memref sig .tc .vmem S512x6272 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .f32 := win1_1.stage (cfg1.slots t 1)
abbrev hs1_1 (t : Fin cfg1.N) : (ms1_1 t).IsWhole := hstage1_1 ((cfg1.slots t 1).cast nbuf1_1)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S512x6272 .f32) (harg1 : arg1.IsWhole) (arg2 : Memref sig .tc .vmem S512x128 .f32) (harg2 : arg2.IsWhole)
    (x0 : Vec F S512x6272 .f32) :
    { L1 : List (View.Piece (Elt F) S512x128 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc1__kth_body i arg1 harg1 arg2 harg2) K } := by
  refine ⟨?_, fun E K => ?run⟩
  case run =>
    simp only [cc1__kth_body_eq_skeleton]; unfold cc1__kth_body_skel
    unfold owns
    iintro ⟨⟨%f0, %hf0, H0⟩, ⟨%d1, %f1, -, H1⟩, Hk⟩
    obtain rfl := harg1.eq_unread hf0
    sl_exec
    sl_step
    iapply Hk
    isplitl [H0]
    · iexists _; isplitr; · ipureintro; exact harg1.read_unread _
      iexact H0
    iexists _; iexact H1

/-- The run's pieces for output 1 tile its block (1 store of `S512x128`, checked by the kernel's evaluation: Lib/Ring.lean `Piece.tiledL`, linear in the pieces, through a loop's `@[irreducible]` trip theorem too), so they cover it. -/
theorem cover1_A_1 (c : Dev nD) (i : grid1.Coords) (arg1 : Memref sig .tc .vmem S512x6272 .f32) (harg1 : arg1.IsWhole) (arg2 : Memref sig .tc .vmem S512x128 .f32) (harg2 : arg2.IsWhole)
    (x0 : Vec F S512x6272 .f32) (y : S512x128.Idx) :
    ∃ pc ∈ (kernelRun1_A c i arg1 harg1 arg2 harg2 x0).1, y ∈ pc.1.set :=
  View.cover_of_tiledL (kernelRun1_A c i arg1 harg1 arg2 harg2 x0).1 S512x128.size (by sl_kernel_rfl) y

/-- What the run leaves in output 1's staging buffer: its pieces read back over junk. -/
def out1_A_1 (c : Dev nD) (i : grid1.Coords) (arg1 : Memref sig .tc .vmem S512x6272 .f32) (harg1 : arg1.IsWhole) (arg2 : Memref sig .tc .vmem S512x128 .f32) (harg2 : arg2.IsWhole)
    (x0 : Vec F S512x6272 .f32) : Vec F S512x128 .f32 :=
  VO1_1.read (Elt F) (VO1_1.writes (Elt F) VO1_1.junk (kernelRun1_A c i arg1 harg1 arg2 harg2 x0).1)

/-! ## What the outputs hold after each point -/

/-- What the outputs' staging buffers hold after the body at point `t`: the run's contents at
    the point's memrefs and input blocks. -/
def outsAt1 (c : Dev nD) (t : Fin cfg1.N) : Vec F S512x128 .f32 :=
  out1_A_1 c (grid1.coords t) (ms1_0 t) (hs1_0 t) (ms1_1 t) (hs1_1 t) (iblk1 V c 0 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ UU ℕ cfg1 c where
  A w := V c (Pipeline.arrRef spec1 w)
  after w t := match w with
    | ⟨0, _⟩ => iblk1 V c 0 t
    | ⟨1, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t))

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  unfold outsAt1
  unfold out1_A_1
  iintro ⟨HΦ, Ho, ⟨%d0, H0⟩, ⟨%d1, H1⟩⟩
  iapply ((kernelRun1_A c (grid1.coords t) _ _ _ _ (iblk1 V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover1_A_1 c _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Hand

end
-- ==== Proof.BodyI2.lean ====
/- What one grid point of kernel 2 leaves in its output buffers, and the pipeline's proof data, for any contents `V`
   the buffers hold when the kernel is entered. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.BodyI0

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Regions
variable (V : (c : Dev nD) → (b : Ref sig .tc) → Buf (Elt F) ((c : Thread nD τ).loc b))

/-! # REGION 2 of @main: custom_call 2, `cc2__extract_body` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S512x128 := Rect.unit (s := S512x128) ![0, 0] S512x128.size inb_S512x128_S512x128_0_0
abbrev r2_1 : Rect S2048x128 := Rect.unit (s := S2048x128) ![0, 0] S2048x128.size inb_S2048x128_S2048x128_0_0
abbrev r2_2 : Rect S1x512x16 := Rect.unit (s := S1x512x16) ![0, 0, 0] S1x512x16.size inb_S1x512x16_S1x512x16_0_0_0

/-! ## What the body leaves in each output window's buffer -/

/-! ### Values of the body that the stores' payloads, spelt out, would write more than once

    Each is a vector the body binds (often a part call's result), stated over the input windows' blocks and
    numbered on from the skeleton's payload functions (`k2_pay93` …, after `k2_pay92`), so that
    `out2_W` and the values after it name it instead of spelling it out (`unfold_out out2_W` opens a canon
    with them, `unfold_payloads` opens them with the payloads); the comment after each is the printed function's
    name for the value (a count appended where that name is bound again). -/

def k2_pay93 (i : grid2.Coords) (x0 : Vec F S512x128 .f32) (x1 : Vec F S2048x128 .f32) (x2 : Vec F S512x128 .f32) : IVec S512x16x128 32 :=
  iota .tc S512x16x128 32 [1] iota_S512x16x128_d1_w32 -- `v8`
def k2_pay94 (i : grid2.Coords) (x0 : Vec F S512x128 .f32) (x1 : Vec F S2048x128 .f32) (x2 : Vec F S512x128 .f32) : IVec S512x128 32 :=
  iota .tc S512x128 32 [1] iota_S512x128_d1_w32 -- `v29`
def k2_pay95 (i : grid2.Coords) (x0 : Vec F S512x128 .f32) (x1 : Vec F S2048x128 .f32) (x2 : Vec F S512x128 .f32) : FVec F S512x1 .f32 :=
  k2_pay1 (View.ld x2 r2_0) -- `v2`
def k2_pay96 (i : grid2.Coords) (x0 : Vec F S512x128 .f32) (x1 : Vec F S2048x128 .f32) (x2 : Vec F S512x128 .f32) : FVec F S512x16x128 .f32 :=
  k2_pay2 i (View.ld x0 r2_0) (View.ld x1 r2_1) -- `v19`
def k2_pay97 (i : grid2.Coords) (x0 : Vec F S512x128 .f32) (x1 : Vec F S2048x128 .f32) (x2 : Vec F S512x128 .f32) : FVec F S512x128 .f32 :=
  k2_pay6 i (View.ld x0 r2_0) (View.ld x1 r2_1) -- `v30`
def k2_pay98 (i : grid2.Coords) (x0 : Vec F S512x128 .f32) (x1 : Vec F S2048x128 .f32) (x2 : Vec F S512x128 .f32) : IVec S512x128 32 :=
  k2_pay7 i (View.ld x0 r2_0) (View.ld x1 r2_1) -- `v36`
def k2_pay99 (i : grid2.Coords) (x0 : Vec F S512x128 .f32) (x1 : Vec F S2048x128 .f32) (x2 : Vec F S512x128 .f32) : FVec F S512x128 .f32 :=
  k2_pay10 (k2_pay95 i x0 x1 x2) (k2_pay97 i x0 x1 x2) -- `v46`
def k2_pay100 (i : grid2.Coords) (x0 : Vec F S512x128 .f32) (x1 : Vec F S2048x128 .f32) (x2 : Vec F S512x128 .f32) : FVec F S512x128 .f32 :=
  k2_pay16 (k2_pay95 i x0 x1 x2) (k2_pay93 i x0 x1 x2) (k2_pay96 i x0 x1 x2) (k2_pay98 i x0 x1 x2) -- `v70`
def k2_pay101 (i : grid2.Coords) (x0 : Vec F S512x128 .f32) (x1 : Vec F S2048x128 .f32) (x2 : Vec F S512x128 .f32) : FVec F S512x16x128 .f32 :=
  k2_pay18 (k2_pay93 i x0 x1 x2) (k2_pay96 i x0 x1 x2) (k2_pay98 i x0 x1 x2) -- `v77`
def k2_pay102 (i : grid2.Coords) (x0 : Vec F S512x128 .f32) (x1 : Vec F S2048x128 .f32) (x2 : Vec F S512x128 .f32) : FVec F S512x128 .f32 :=
  k2_pay19 (k2_pay93 i x0 x1 x2) (k2_pay96 i x0 x1 x2) (k2_pay98 i x0 x1 x2) -- `v78`
def k2_pay103 (i : grid2.Coords) (x0 : Vec F S512x128 .f32) (x1 : Vec F S2048x128 .f32) (x2 : Vec F S512x128 .f32) : IVec S512x128 32 :=
  k2_pay20 (k2_pay93 i x0 x1 x2) (k2_pay96 i x0 x1 x2) (k2_pay98 i x0 x1 x2) -- `v84`
def k2_pay104 (i : grid2.Coords) (x0 : Vec F S512x128 .f32) (x1 : Vec F S2048x128 .f32) (x2 : Vec F S512x128 .f32) : IVec S512x512 32 :=
  iota .tc S512x512 32 [1] iota_S512x512_d1_w32 -- `v123`
def k2_pay105 (i : grid2.Coords) (x0 : Vec F S512x128 .f32) (x1 : Vec F S2048x128 .f32) (x2 : Vec F S512x128 .f32) : FVec F S512x512 .f32 :=
  k2_pay25 (k2_pay95 i x0 x1 x2) (k2_pay93 i x0 x1 x2) (k2_pay99 i x0 x1 x2) (k2_pay100 i x0 x1 x2) (k2_pay101 i x0 x1 x2) (k2_pay102 i x0 x1 x2) (k2_pay103 i x0 x1 x2) -- `v121`
def k2_pay106 (i : grid2.Coords) (x0 : Vec F S512x128 .f32) (x1 : Vec F S2048x128 .f32) (x2 : Vec F S512x128 .f32) : IVec S512x512 32 :=
  k2_pay26 (BitVec.ofNat 32 (i 1).val) (k2_pay95 i x0 x1 x2) (k2_pay93 i x0 x1 x2) (k2_pay94 i x0 x1 x2) (k2_pay11 (k2_pay95 i x0 x1 x2) (k2_pay94 i x0 x1 x2) (k2_pay97 i x0 x1 x2) (k2_pay98 i x0 x1 x2) (Scalar.muli (BitVec.ofNat 32 (i 1).val) 2048#32) k2_pay8) (k2_pay17 (BitVec.ofNat 32 (i 1).val) (k2_pay95 i x0 x1 x2) (k2_pay93 i x0 x1 x2) (k2_pay96 i x0 x1 x2) (k2_pay94 i x0 x1 x2) (k2_pay98 i x0 x1 x2)) (k2_pay101 i x0 x1 x2) (k2_pay102 i x0 x1 x2) (k2_pay103 i x0 x1 x2) -- `v122`
def k2_pay107 (i : grid2.Coords) (x0 : Vec F S512x128 .f32) (x1 : Vec F S2048x128 .f32) (x2 : Vec F S512x128 .f32) : IVec S512x512 32 :=
  k2_pay28 (k2_pay95 i x0 x1 x2) (k2_pay93 i x0 x1 x2) (k2_pay99 i x0 x1 x2) (k2_pay100 i x0 x1 x2) (k2_pay101 i x0 x1 x2) (k2_pay102 i x0 x1 x2) (k2_pay103 i x0 x1 x2) -- `v129`
def k2_pay108 (i : grid2.Coords) (x0 : Vec F S512x128 .f32) (x1 : Vec F S2048x128 .f32) (x2 : Vec F S512x128 .f32) : FVec F S512x512 .f32 :=
  k2_pay39 (k2_pay105 i x0 x1 x2) (k2_pay104 i x0 x1 x2) (k2_pay107 i x0 x1 x2) -- `v171`
def k2_pay109 (i : grid2.Coords) (x0 : Vec F S512x128 .f32) (x1 : Vec F S2048x128 .f32) (x2 : Vec F S512x128 .f32) : FVec F S512x1 .f32 :=
  k2_pay40 (k2_pay105 i x0 x1 x2) (k2_pay104 i x0 x1 x2) (k2_pay107 i x0 x1 x2) -- `v173`
def k2_pay110 (i : grid2.Coords) (x0 : Vec F S512x128 .f32) (x1 : Vec F S2048x128 .f32) (x2 : Vec F S512x128 .f32) : FVec F S512x512 .f32 :=
  k2_pay47 (k2_pay104 i x0 x1 x2) (k2_pay108 i x0 x1 x2) (k2_pay109 i x0 x1 x2) -- `v203`
def k2_pay111 (i : grid2.Coords) (x0 : Vec F S512x128 .f32) (x1 : Vec F S2048x128 .f32) (x2 : Vec F S512x128 .f32) : IVec S512x512 1 :=
  k2_pay49 (k2_pay104 i x0 x1 x2) (k2_pay108 i x0 x1 x2) (k2_pay109 i x0 x1 x2) -- `v213`
def k2_pay112 (i : grid2.Coords) (x0 : Vec F S512x128 .f32) (x1 : Vec F S2048x128 .f32) (x2 : Vec F S512x128 .f32) : FVec F S512x512 .f32 :=
  k2_pay59 (k2_pay104 i x0 x1 x2) (k2_pay110 i x0 x1 x2) (k2_pay111 i x0 x1 x2) -- `v251`
def k2_pay113 (i : grid2.Coords) (x0 : Vec F S512x128 .f32) (x1 : Vec F S2048x128 .f32) (x2 : Vec F S512x128 .f32) : IVec S512x512 1 :=
  k2_pay61 (k2_pay104 i x0 x1 x2) (k2_pay110 i x0 x1 x2) (k2_pay111 i x0 x1 x2) -- `v261`
def k2_pay114 (i : grid2.Coords) (x0 : Vec F S512x128 .f32) (x1 : Vec F S2048x128 .f32) (x2 : Vec F S512x128 .f32) : FVec F S512x512 .f32 :=
  k2_pay71 (k2_pay104 i x0 x1 x2) (k2_pay112 i x0 x1 x2) (k2_pay113 i x0 x1 x2) -- `v299`
def k2_pay115 (i : grid2.Coords) (x0 : Vec F S512x128 .f32) (x1 : Vec F S2048x128 .f32) (x2 : Vec F S512x128 .f32) : IVec S512x512 1 :=
  k2_pay73 (k2_pay104 i x0 x1 x2) (k2_pay112 i x0 x1 x2) (k2_pay113 i x0 x1 x2) -- `v303`
def k2_pay116 (i : grid2.Coords) (x0 : Vec F S512x128 .f32) (x1 : Vec F S2048x128 .f32) (x2 : Vec F S512x128 .f32) : IVec S512x512 32 :=
  k2_pay74 -- `v304`
def k2_pay117 (i : grid2.Coords) (x0 : Vec F S512x128 .f32) (x1 : Vec F S2048x128 .f32) (x2 : Vec F S512x128 .f32) : FVec F S512x512 .f32 :=
  k2_pay85 (k2_pay104 i x0 x1 x2) (k2_pay114 i x0 x1 x2) (k2_pay115 i x0 x1 x2) (k2_pay116 i x0 x1 x2) -- `v347`

/-- Window 3's staging buffer after the body, from the input windows' blocks: its 1 store as pieces, LAST
    FIRST (Lib/Pipeline/FrameBody.lean `View.canon`; the payloads are the skeleton's and the values stated above). -/
def out2_3 (i : grid2.Coords) (x0 : Vec F S512x128 .f32) (x1 : Vec F S2048x128 .f32) (x2 : Vec F S512x128 .f32) : Vec F S1x512x16 .f32 :=
  View.canon [⟨r2_2, k2_pay90 (k2_pay104 i x0 x1 x2) (k2_pay27 (k2_pay95 i x0 x1 x2) (k2_pay93 i x0 x1 x2) (k2_pay99 i x0 x1 x2) (k2_pay100 i x0 x1 x2) (k2_pay101 i x0 x1 x2) (k2_pay102 i x0 x1 x2) (k2_pay103 i x0 x1 x2)) (k2_pay32 (k2_pay105 i x0 x1 x2) (k2_pay104 i x0 x1 x2) (k2_pay107 i x0 x1 x2)) (k2_pay36 (k2_pay105 i x0 x1 x2) (k2_pay104 i x0 x1 x2) (k2_pay107 i x0 x1 x2)) (k2_pay109 i x0 x1 x2) (k2_pay44 (k2_pay104 i x0 x1 x2) (k2_pay108 i x0 x1 x2) (k2_pay109 i x0 x1 x2)) (k2_pay48 (k2_pay104 i x0 x1 x2) (k2_pay108 i x0 x1 x2) (k2_pay109 i x0 x1 x2)) (k2_pay52 (k2_pay110 i x0 x1 x2) (k2_pay111 i x0 x1 x2)) (k2_pay56 (k2_pay104 i x0 x1 x2) (k2_pay110 i x0 x1 x2) (k2_pay111 i x0 x1 x2)) (k2_pay60 (k2_pay104 i x0 x1 x2) (k2_pay110 i x0 x1 x2) (k2_pay111 i x0 x1 x2)) (k2_pay64 (k2_pay112 i x0 x1 x2) (k2_pay113 i x0 x1 x2)) (k2_pay68 (k2_pay104 i x0 x1 x2) (k2_pay112 i x0 x1 x2) (k2_pay113 i x0 x1 x2)) (k2_pay72 (k2_pay104 i x0 x1 x2) (k2_pay112 i x0 x1 x2) (k2_pay113 i x0 x1 x2)) (k2_pay78 (k2_pay104 i x0 x1 x2) (k2_pay114 i x0 x1 x2) (k2_pay115 i x0 x1 x2) (k2_pay116 i x0 x1 x2)) (k2_pay82 (k2_pay104 i x0 x1 x2) (k2_pay114 i x0 x1 x2) (k2_pay115 i x0 x1 x2) (k2_pay116 i x0 x1 x2)) (k2_pay117 i x0 x1 x2)⟩]

/-- Its stores tile the buffer (checked by evaluation), so they cover it. -/
theorem cover2_3 (p0 : Vec F S1x512x16 .f32) (y : S1x512x16.Idx) :
    ∃ pc ∈ ([⟨r2_2, p0⟩] : List (View.Piece (Elt F) S1x512x16 .f32)), y ∈ pc.1.set :=
  View.cover_of_tiled [⟨r2_2, p0⟩] S1x512x16.size (by rfl) y

/-- Window 4's staging buffer after the body, from the input windows' blocks: its 1 store as pieces, LAST
    FIRST (Lib/Pipeline/FrameBody.lean `View.canon`; the payloads are the skeleton's and the values stated above). -/
def out2_4 (i : grid2.Coords) (x0 : Vec F S512x128 .f32) (x1 : Vec F S2048x128 .f32) (x2 : Vec F S512x128 .f32) : Vec F S1x512x16 .i32 :=
  View.canon [⟨r2_2, k2_pay91 (k2_pay106 i x0 x1 x2) (k2_pay104 i x0 x1 x2) (k2_pay30 (k2_pay106 i x0 x1 x2) (k2_pay104 i x0 x1 x2) (k2_pay107 i x0 x1 x2)) (k2_pay34 (k2_pay105 i x0 x1 x2) (k2_pay106 i x0 x1 x2) (k2_pay104 i x0 x1 x2) (k2_pay107 i x0 x1 x2)) (k2_pay38 (k2_pay105 i x0 x1 x2) (k2_pay106 i x0 x1 x2) (k2_pay104 i x0 x1 x2) (k2_pay107 i x0 x1 x2)) (k2_pay42 (k2_pay106 i x0 x1 x2) (k2_pay104 i x0 x1 x2) (k2_pay108 i x0 x1 x2) (k2_pay109 i x0 x1 x2)) (k2_pay46 (k2_pay106 i x0 x1 x2) (k2_pay104 i x0 x1 x2) (k2_pay108 i x0 x1 x2) (k2_pay109 i x0 x1 x2)) (k2_pay50 (k2_pay106 i x0 x1 x2) (k2_pay104 i x0 x1 x2) (k2_pay108 i x0 x1 x2) (k2_pay109 i x0 x1 x2)) (k2_pay54 (k2_pay106 i x0 x1 x2) (k2_pay104 i x0 x1 x2) (k2_pay110 i x0 x1 x2) (k2_pay111 i x0 x1 x2)) (k2_pay58 (k2_pay106 i x0 x1 x2) (k2_pay104 i x0 x1 x2) (k2_pay110 i x0 x1 x2) (k2_pay111 i x0 x1 x2)) (k2_pay62 (k2_pay106 i x0 x1 x2) (k2_pay113 i x0 x1 x2)) (k2_pay66 (k2_pay106 i x0 x1 x2) (k2_pay104 i x0 x1 x2) (k2_pay112 i x0 x1 x2) (k2_pay113 i x0 x1 x2)) (k2_pay70 (k2_pay106 i x0 x1 x2) (k2_pay104 i x0 x1 x2) (k2_pay112 i x0 x1 x2) (k2_pay113 i x0 x1 x2)) (k2_pay76 (k2_pay106 i x0 x1 x2) (k2_pay104 i x0 x1 x2) (k2_pay115 i x0 x1 x2) (k2_pay116 i x0 x1 x2)) (k2_pay80 (k2_pay106 i x0 x1 x2) (k2_pay104 i x0 x1 x2) (k2_pay114 i x0 x1 x2) (k2_pay115 i x0 x1 x2) (k2_pay116 i x0 x1 x2)) (k2_pay84 (k2_pay106 i x0 x1 x2) (k2_pay104 i x0 x1 x2) (k2_pay114 i x0 x1 x2) (k2_pay115 i x0 x1 x2) (k2_pay116 i x0 x1 x2)) (k2_pay117 i x0 x1 x2)⟩]

/-- Its stores tile the buffer (checked by evaluation), so they cover it. -/
theorem cover2_4 (p0 : Vec F S1x512x16 .i32) (y : S1x512x16.Idx) :
    ∃ pc ∈ ([⟨r2_2, p0⟩] : List (View.Piece (Elt F) S1x512x16 .i32)), y ∈ pc.1.set :=
  View.cover_of_tiled [⟨r2_2, p0⟩] S1x512x16.size (by rfl) y

/-- Window 5's staging buffer after the body, from the input windows' blocks: its 1 store as pieces, LAST
    FIRST (Lib/Pipeline/FrameBody.lean `View.canon`; the payloads are the skeleton's and the values stated above). -/
def out2_5 (i : grid2.Coords) (x0 : Vec F S512x128 .f32) (x1 : Vec F S2048x128 .f32) (x2 : Vec F S512x128 .f32) : Vec F S1x512x16 .i32 :=
  View.canon [⟨r2_2, k2_pay92 (k2_pay4 i (View.ld x2 r2_0) (View.ld x0 r2_0) (View.ld x1 r2_1)) (k2_pay5 i (View.ld x2 r2_0) (View.ld x0 r2_0) (View.ld x1 r2_1))⟩]

/-- Its stores tile the buffer (checked by evaluation), so they cover it. -/
theorem cover2_5 (p0 : Vec F S1x512x16 .i32) (y : S1x512x16.Idx) :
    ∃ pc ∈ ([⟨r2_2, p0⟩] : List (View.Piece (Elt F) S1x512x16 .i32)), y ∈ pc.1.set :=
  View.cover_of_tiled [⟨r2_2, p0⟩] S1x512x16.size (by rfl) y

/-! ## The body's triple -/

set_option maxHeartbeats 17560100 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg2 : Memref sig .tc .vmem S512x128 .f32) (harg2 : arg2.IsWhole) (arg3 : Memref sig .tc .vmem S2048x128 .f32) (harg3 : arg3.IsWhole) (arg4 : Memref sig .tc .vmem S512x128 .f32) (harg4 : arg4.IsWhole) (arg5 : Memref sig .tc .vmem S1x512x16 .f32) (harg5 : arg5.IsWhole) (arg6 : Memref sig .tc .vmem S1x512x16 .i32) (harg6 : arg6.IsWhole) (arg7 : Memref sig .tc .vmem S1x512x16 .i32) (harg7 : arg7.IsWhole)
    (x0 : Vec F S512x128 .f32) (x1 : Vec F S2048x128 .f32) (x2 : Vec F S512x128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 i x0 x1 x2) ∗ owns (c : Thread nD τ) arg6 fullShare (out2_4 i x0 x1 x2) ∗ owns (c : Thread nD τ) arg7 fullShare (out2_5 i x0 x1 x2)) -∗ K ⟨⟩))
      ⊢ wp frame (wpE (defs₀ (F := F)) Variants.none c none) E (cc2__extract_body i arg2 harg2 arg3 harg3 arg4 harg4 arg5 harg5 arg6 harg6 arg7 harg7) K := by
  simp only [cc2__extract_body_eq_skeleton]; unfold cc2__extract_body_skel
  simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover2_3 _)).trans ?_
    rfl
  isplitl [H4]
  · iexists _; isplitr
    swap; · iexact H4
    ipureintro
    refine (View.read_writes_eq_canon _ _ _ (cover2_4 _)).trans ?_
    rfl
  iexists _; isplitr
  swap; · iexact H5
  ipureintro
  refine (View.read_writes_eq_canon _ _ _ (cover2_5 _)).trans ?_
  rfl

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (grid2.coords t) (iblk2 V c 0 t) (iblk2 V c 1 t) (iblk2 V c 2 t)
    | ⟨4, _⟩ => out2_4 (grid2.coords t) (iblk2 V c 0 t) (iblk2 V c 1 t) (iblk2 V c 2 t)
    | ⟨5, _⟩ => out2_5 (grid2.coords t) (iblk2 V c 0 t) (iblk2 V c 1 t) (iblk2 V c 2 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (grid2.coords t) (iblk2 V c 0 t) (iblk2 V c 1 t) (iblk2 V c 2 t) := by dsimp only [dat2]
theorem after2_4 (c : Dev nD) (t : Fin cfg2.N) : (dat2 V c).after 4 t = out2_4 (grid2.coords t) (iblk2 V c 0 t) (iblk2 V c 1 t) (iblk2 V c 2 t) := by dsimp only [dat2]
theorem after2_5 (c : Dev nD) (t : Fin cfg2.N) : (dat2 V c).after 5 t = out2_5 (grid2.coords t) (iblk2 V c 0 t) (iblk2 V c 1 t) (iblk2 V c 2 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Hand

end
-- ==== Proof.BodyI3.lean ====
/- What one grid point of kernel 3 leaves in its output buffers, and the pipeline's proof data, for any contents `V`
   the buffers hold when the kernel is entered. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.BodyI0

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Regions
variable (V : (c : Dev nD) → (b : Ref sig .tc) → Buf (Elt F) ((c : Thread nD τ).loc b))

/-! # REGION 3 of @main: custom_call 3, `cc3__full_score_body` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ UU ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ UU ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S512x128 := Rect.unit (s := S512x128) ![0, 0] S512x128.size inb_S512x128_S512x128_0_0
abbrev r3_1 : Rect S2048x128 := Rect.unit (s := S2048x128) ![0, 0] S2048x128.size inb_S2048x128_S2048x128_0_0
abbrev r3_2 : Rect S512x2048 := Rect.unit (s := S512x2048) ![0, 0] S512x2048.size inb_S512x2048_S512x2048_0_0

/-! ## What the body leaves in each output window's buffer -/

/-- Window 2's staging buffer after the body, from the input windows' blocks: its 1 store as pieces, LAST
    FIRST (Lib/Pipeline/FrameBody.lean `View.canon`; the payloads are the skeleton's). -/
def out3_2 (x0 : Vec F S512x128 .f32) (x1 : Vec F S2048x128 .f32) : Vec F S512x2048 .f32 :=
  View.canon [⟨r3_2, k3_pay1 (View.ld x0 r3_0) (View.ld x1 r3_1)⟩]

/-- Its stores tile the buffer (checked by evaluation), so they cover it. -/
theorem cover3_2 (p0 : Vec F S512x2048 .f32) (y : S512x2048.Idx) :
    ∃ pc ∈ ([⟨r3_2, p0⟩] : List (View.Piece (Elt F) S512x2048 .f32)), y ∈ pc.1.set :=
  View.cover_of_tiled [⟨r3_2, p0⟩] S512x2048.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs (Lib/Exec.lean), through every part call. -/
theorem sound_kernel3 (c : Dev nD) (E : Set ℕ) (i : grid3.Coords) (arg2 : Memref sig .tc .vmem S512x128 .f32) (harg2 : arg2.IsWhole) (arg3 : Memref sig .tc .vmem S2048x128 .f32) (harg3 : arg3.IsWhole) (arg4 : Memref sig .tc .vmem S512x2048 .f32) (harg4 : arg4.IsWhole)
    (x0 : Vec F S512x128 .f32) (x1 : Vec F S2048x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_2 x0 x1)) -∗ K ⟨⟩))
      ⊢ wp frame (wpE (defs₀ (F := F)) Variants.none c none) E (cc3__full_score_body i arg2 harg2 arg3 harg3 arg4 harg4) K := by
  simp only [cc3__full_score_body_eq_skeleton]; unfold cc3__full_score_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them (`V`); after the body at
    point `t` each input's buffer at its block and each output's at `out3_W` of the input blocks; the invariant the
    class's (Lib/Pipeline/Frame.lean `ΦA`: the scoped rest and the generator register, untouched); nothing owed;
    full shares. -/
def dat3 (c : Dev nD) : Dat τ (Elt F) Unit ℕ UU ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Hand

end
-- ==== Proof.RunI.lean ====
/- The run of the whole program: its host stretches, its three straight-line kernels and the branch that holds the fourth,
   each with the contents of every buffer before and after it. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.BodyI0
public import proofs.«01_k».proof.Proof.BodyI1
public import proofs.«01_k».proof.Proof.BodyI2
public import proofs.«01_k».proof.Proof.BodyI3

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Run
variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_c]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v0]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v3, main_v4]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v6, main_v7, main_v8, main_v9, main_v10, main_v11, main_c_0, main_v12, main_c_1, main_v13, main_v14, main_v15, main_c_2, main_v16, main_c_3, main_v17, main_v18]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1` (region 0's entry). -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- The same read at the TensorCore's references (what region 0's proof data take). -/
abbrev V2 : (c : Dev nD) → (b : Ref sig .tc) → Buf (Elt F) ((c : Thread nD τ).loc b) := fun c b => W2 m ρ c b
/-- At region 0's exit: its arrays at what the pipeline leaves (the inputs as entered, each output's write-backs
    folded: `Dat.arrAt … N`), every other buffer as entered (Lib/Pipeline/FrameSuffix.lean `withArrays`) (region 1's entry). -/
def W3 (c : Dev nD) : Valuation τ sig (Elt F) :=
  Pipeline.withArrays spec0 c (W2 m ρ c) fun w => (dat0 (V2 m ρ) c).arrAt w cfg0.N
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
/-- A reference that is none of region 0's OUTPUT arrays keeps its entry contents across it: an input window's
    array is never written back (`Dat.arrAt_in`, `A_eq0`); any other buffer is left as is. -/
theorem W3_of (c : Dev nD) (r : Ref sig .tc) (h : ∀ w : Fin cfg0.W, Pipeline.arrRef spec0 w = r → (cfg0.win w).isOut = false) :
    W3 m ρ c (Proc.devRef .tc r) = W2 m ρ c (Proc.devRef .tc r) := by
  by_cases hw : ∃ w : Fin cfg0.W, Pipeline.arrRef spec0 w = r
  · obtain ⟨w, rfl⟩ := hw
    exact (W3_arr m ρ c w).trans (((dat0 (V2 m ρ) c).arrAt_in w (h w rfl) _).trans (A_eq0 (V2 m ρ) c w))
  · exact W3_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn0 a ha)).trans (W2_args m ρ c a ha)
/-- The same read at the TensorCore's references (region 0's exit contents). -/
abbrev V3 : (c : Dev nD) → (b : Ref sig .tc) → Buf (Elt F) ((c : Thread nD τ).loc b) := fun c b => W3 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V2 m ρ) c).arrAt w cfg0.N = V3 m ρ c (Pipeline.arrRef spec0 w) :=
  (W3_arr m ρ c w).symm
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)
/-- The host operation that turns the overflow flag into the word @main branches on. -/
abbrev rdOps : List (HloOp τ sig (Elt F)) :=
  [StableHlo.unary main_v18 main_v19 ((extui 32 · natLt_1_32) : (⟨S_, .i1⟩ : BufTy).Contents (Elt F) → (⟨S_, .i32⟩ : BufTy).Contents (Elt F))]
/-- The reference it writes. -/
abbrev rdOps_W : List (Ref sig .tc) := [main_v19]
theorem rdOps_writes : (rdOps : List (HloOp τ sig (Elt F))).Forall fun op => op.writes ⊆ (rdOps_W.map (Proc.devRef (τ := τ) .tc)).toFinset :=
  StableHlo.forall_writes_sub_of_map rfl
theorem rdOps_args : ∀ a ∈ argRefs, a ∉ rdOps_W := ListAll.forall_mem_of_all_decide (by decide +kernel)
/-- After the read of the branch word (both arms start here; region 3's entry in the second). -/
abbrev W8 : Dev nD → Valuation τ sig (Elt F) := fun c => StableHlo.after rdOps (W7 m ρ c)
theorem W8_of (c : Dev nD) (r : Ref sig .tc) (h : r ∉ rdOps_W) : W8 m ρ c (Proc.devRef .tc r) = W7 m ρ c (Proc.devRef .tc r) :=
  StableHlo.after_of_writes_sub rdOps _ rdOps_writes h
theorem W8_args (c : Dev nD) : ∀ a ∈ argRefs, W8 m ρ c (Proc.devRef .tc a) = m ((c : Thread nD τ).loc a) :=
  fun a ha => (W8_of m ρ c a (rdOps_args a ha)).trans (W7_args m ρ c a ha)
/-- The same read at the TensorCore's references (what region 3's proof data take). -/
abbrev V8 : (c : Dev nD) → (b : Ref sig .tc) → Buf (Elt F) ((c : Thread nD τ).loc b) := fun c b => W8 m ρ c b
/-- At region 3's exit: its arrays at what the pipeline leaves (the inputs as entered, each output's write-backs
    folded: `Dat.arrAt … N`), every other buffer as entered (Lib/Pipeline/FrameSuffix.lean `withArrays`). -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
/-- A reference that is none of region 3's OUTPUT arrays keeps its entry contents across it: an input window's
    array is never written back (`Dat.arrAt_in`, `A_eq3`); any other buffer is left as is. -/
theorem W9_of (c : Dev nD) (r : Ref sig .tc) (h : ∀ w : Fin cfg3.W, Pipeline.arrRef spec3 w = r → (cfg3.win w).isOut = false) :
    W9 m ρ c (Proc.devRef .tc r) = W8 m ρ c (Proc.devRef .tc r) := by
  by_cases hw : ∃ w : Fin cfg3.W, Pipeline.arrRef spec3 w = r
  · obtain ⟨w, rfl⟩ := hw
    exact (W9_arr m ρ c w).trans (((dat3 (V8 m ρ) c).arrAt_in w (h w rfl) _).trans (A_eq3 (V8 m ρ) c w))
  · exact W9_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W9_args (c : Dev nD) : ∀ a ∈ argRefs, W9 m ρ c (Proc.devRef .tc a) = m ((c : Thread nD τ).loc a) :=
  fun a ha => (W9_of m ρ c a (argsIn3 a ha)).trans (W8_args m ρ c a ha)
/-- The same read at the TensorCore's references (region 3's exit contents). -/
abbrev V9 : (c : Dev nD) → (b : Ref sig .tc) → Buf (Elt F) ((c : Thread nD τ).loc b) := fun c b => W9 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-! ### The two arms of the branch -/

/-- The first arm (no block overflowed): the top 100 of the gathered survivors, and their ids looked up. -/
abbrev arm0Ops : List (HloOp τ sig (Elt F)) :=
  [ StableHlo.unary main_v7 main_case0b0_values ((fun x => (Host.topK S4096x100 1 (FloatOps.cmpfTotal .gt) x sliceFits_S4096x784_S4096x100).1) : (⟨S4096x784, .f32⟩ : BufTy).Contents (Elt F) → (⟨S4096x100, .f32⟩ : BufTy).Contents (Elt F)),
    StableHlo.unary main_v7 main_case0b0_indices ((fun x => (Host.topK S4096x100 1 (FloatOps.cmpfTotal .gt) x sliceFits_S4096x784_S4096x100).2) : (⟨S4096x784, .f32⟩ : BufTy).Contents (Elt F) → (⟨S4096x100, .i32⟩ : BufTy).Contents (Elt F)),
    StableHlo.TRef.nullary main_case0b0_call1.c (constantI S_ 32 0#32),
    StableHlo.TRef.unary main_case0b0_call1.c main_case0b0_call1.v0 (broadcastInDim S4096x100 ![] bcast_S_S4096x100),
    StableHlo.TRef.binary (.of main_case0b0_indices) main_case0b0_call1.v0 main_case0b0_call1.v1 (cmpi .slt),
    StableHlo.TRef.nullary main_case0b0_call1.c_0 (constantI S_ 32 784#32),
    StableHlo.TRef.unary main_case0b0_call1.c_0 main_case0b0_call1.v2 (broadcastInDim S4096x100 ![] bcast_S_S4096x100),
    StableHlo.TRef.binary (.of main_case0b0_indices) main_case0b0_call1.v2 main_case0b0_call1.v3 addi,
    StableHlo.TRef.ternary main_case0b0_call1.v1 main_case0b0_call1.v3 (.of main_case0b0_indices) main_case0b0_call1.v4 select,
    StableHlo.TRef.reshape main_case0b0_call1.v4 main_case0b0_call1.v5 (rfl : (.i32 : EltTy) = .i32) shapeCasts_S4096x100_S4096x100x1,
    StableHlo.TRef.nullary main_case0b0_call1.c_1 (constantI S1 32 783#32),
    StableHlo.TRef.nullary main_case0b0_call1.c_2 (constantI S_ 32 0#32),
    StableHlo.TRef.unary main_case0b0_call1.c_2 main_case0b0_call1.v6 (broadcastInDim S4096x100x1 ![] bcast_S_S4096x100x1),
    StableHlo.TRef.binary main_case0b0_call1.v5 main_case0b0_call1.v6 main_case0b0_call1.v7 (cmpi .sge),
    StableHlo.TRef.unary main_case0b0_call1.c_1 main_case0b0_call1.v8 (broadcastInDim S1x1x1 ![2] bcast_S1_S1x1x1_2),
    StableHlo.TRef.unary main_case0b0_call1.v8 main_case0b0_call1.v9 (broadcastInDim S4096x100x1 ![0, 1, 2] bcast_S1x1x1_S4096x100x1_0_1_2),
    StableHlo.TRef.binary main_case0b0_call1.v5 main_case0b0_call1.v9 main_case0b0_call1.v10 (cmpi .sle),
    StableHlo.TRef.binary main_case0b0_call1.v7 main_case0b0_call1.v10 main_case0b0_call1.v11 andi,
    StableHlo.TRef.nullary main_case0b0_call1.c_3 (constantI S_ 1 1#1),
    StableHlo.TRef.binary main_case0b0_call1.v11 main_case0b0_call1.c_3 main_case0b0_call1.v12 (fun x v => Host.reduce IntOp.andi x v reducesTo_S4096x100x1_S4096x100_d2 h_S_),
    StableHlo.TRef.binary (.of main_v9) main_case0b0_call1.v5 main_case0b0_call1.v13 (fun x i => Host.gather gather_S4096x784_S4096x100x1_S4096x100_n_1_0_0_1_2_11 x i),
    StableHlo.TRef.nullary main_case0b0_call1.c_4 (constantI S_ 32 2147483648#32),
    StableHlo.TRef.unary main_case0b0_call1.c_4 main_case0b0_call1.v14 (broadcastInDim S4096x100 ![] bcast_S_S4096x100),
    StableHlo.TRef.ternary main_case0b0_call1.v12 main_case0b0_call1.v13 main_case0b0_call1.v14 main_case0b0_call1.v15 select,
    StableHlo.unary main_case0b0_values main_v20_0 id,
    StableHlo.unary main_case0b0_v21 main_v20_1 id ]
/-- The second arm, after its kernel launch: the top 100 of the whole score array. -/
abbrev arm1Ops : List (HloOp τ sig (Elt F)) :=
  [ StableHlo.unary main_case0b1_v21 main_case0b1_v22 ((extractStridedSlice S4096x100000 ![0, 0] · slices_S4096x100352_S4096x100000_0_0) : (⟨S4096x100352, .f32⟩ : BufTy).Contents (Elt F) → (⟨S4096x100000, .f32⟩ : BufTy).Contents (Elt F)),
    StableHlo.unary main_case0b1_v22 main_case0b1_values ((fun x => (Host.topK S4096x100 1 (FloatOps.cmpfTotal .gt) x sliceFits_S4096x100000_S4096x100).1) : (⟨S4096x100000, .f32⟩ : BufTy).Contents (Elt F) → (⟨S4096x100, .f32⟩ : BufTy).Contents (Elt F)),
    StableHlo.unary main_case0b1_v22 main_case0b1_indices ((fun x => (Host.topK S4096x100 1 (FloatOps.cmpfTotal .gt) x sliceFits_S4096x100000_S4096x100).2) : (⟨S4096x100000, .f32⟩ : BufTy).Contents (Elt F) → (⟨S4096x100, .i32⟩ : BufTy).Contents (Elt F)),
    StableHlo.unary main_case0b1_values main_v20_0 id,
    StableHlo.unary main_case0b1_indices main_v20_1 id ]
theorem arm0Ops_sub : (arm0Ops : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub .., StableHlo.unary_bufs_sub .., StableHlo.unary_bufs_sub ..⟩
theorem arm1Ops_sub : (arm1Ops : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub ..⟩
theorem arm0Ops_fresh : (arm0Ops : List (HloOp τ sig (Elt F))).Forall fun op => op.fresh = ∅ := by
  simp only [List.Forall]; repeat' constructor
theorem arm1Ops_fresh : (arm1Ops : List (HloOp τ sig (Elt F))).Forall fun op => op.fresh = ∅ := by
  simp only [List.Forall]; repeat' constructor
/-- What the arms write, in order. -/
abbrev arm0Ops_W : List (Ref sig .tc) := [main_case0b0_values, main_case0b0_indices, main_case0b0_call1_c, main_case0b0_call1_v0, main_case0b0_call1_v1, main_case0b0_call1_c_0, main_case0b0_call1_v2, main_case0b0_call1_v3, main_case0b0_call1_v4, main_case0b0_call1_v5, main_case0b0_call1_c_1, main_case0b0_call1_c_2, main_case0b0_call1_v6, main_case0b0_call1_v7, main_case0b0_call1_v8, main_case0b0_call1_v9, main_case0b0_call1_v10, main_case0b0_call1_v11, main_case0b0_call1_c_3, main_case0b0_call1_v12, main_case0b0_call1_v13, main_case0b0_call1_c_4, main_case0b0_call1_v14, main_case0b0_v21, main_v20_0, main_v20_1]
abbrev arm1Ops_W : List (Ref sig .tc) := [main_case0b1_v22, main_case0b1_values, main_case0b1_indices, main_v20_0, main_v20_1]
theorem arm0Ops_writes : (arm0Ops : List (HloOp τ sig (Elt F))).Forall fun op => op.writes ⊆ (arm0Ops_W.map (Proc.devRef (τ := τ) .tc)).toFinset :=
  StableHlo.forall_writes_sub_of_map rfl
theorem arm1Ops_writes : (arm1Ops : List (HloOp τ sig (Elt F))).Forall fun op => op.writes ⊆ (arm1Ops_W.map (Proc.devRef (τ := τ) .tc)).toFinset :=
  StableHlo.forall_writes_sub_of_map rfl
theorem arm0Ops_args : ∀ a ∈ argRefs, a ∉ arm0Ops_W := ListAll.forall_mem_of_all_decide (by decide +kernel)
theorem arm1Ops_args : ∀ a ∈ argRefs, a ∉ arm1Ops_W := ListAll.forall_mem_of_all_decide (by decide +kernel)

/-- The word @main branches on. -/
def word (c : Dev nD) : BitVec 32 := W8 m ρ c (Proc.devRef .tc main_v19) HostLoop.idx0
/-- The contents at the return, as a function of the arm taken. -/
def Warm (c : Dev nD) : Fin 2 → Valuation τ sig (Elt F)
  | 0 => StableHlo.after arm0Ops (W8 m ρ c)
  | 1 => StableHlo.after arm1Ops (W9 m ρ c)
/-- The contents at the return. -/
def WE (c : Dev nD) : Valuation τ sig (Elt F) := Warm m ρ c (HostLoop.branch (word m ρ c) 1)
theorem WE_args (c : Dev nD) : ∀ a ∈ argRefs, WE m ρ c (Proc.devRef .tc a) = m ((c : Thread nD τ).loc a) := by
  intro a ha
  unfold WE
  generalize HostLoop.branch (word m ρ c) 1 = b
  fin_cases b
  · exact (StableHlo.after_of_writes_sub arm0Ops _ arm0Ops_writes (arm0Ops_args a ha)).trans (W8_args m ρ c a ha)
  · exact (StableHlo.after_of_writes_sub arm1Ops _ arm1Ops_writes (arm1Ops_args a ha)).trans (W9_args m ρ c a ha)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ UU ℕ (Pipeline.pin (pcfgs (F := F)) adm p) c
  | ⟨0, _⟩ => fun c => dat0 (V2 m ρ) c
  | ⟨1, _⟩ => fun c => dat1 (V3 m ρ) c
  | ⟨2, _⟩ => fun c => dat2 (V5 m ρ) c
  | ⟨3, _⟩ => fun c => dat3 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the core's generator register at some state and its `owes`, at nothing. -/
abbrev Rw (c : Dev nD) : sProp 𝕄 := iprop((∃ r, prngReg c r) ∗ ∃ W, owes (c : Thread nD τ) (0 : CellTallies nD τ sig Unit) W)
/-- The ghost state of region 3's cells, in the second copy of the algebra: carried to the branch untouched. -/
abbrev Gh (c : Dev nD) : sProp 𝕄 :=
  iprop(Pipeline.cellsGhost (Pipeline.pin (pcfgs (F := F)) adm) (embAt (B := UR sig nD τ) (1 : Fin 2)) 3 c
    ∗ Pipeline.toksInit (Pipeline.pin (pcfgs (F := F)) adm) (embAt (B := UR sig nD τ) (1 : Fin 2)) 3 c)
/-- What rides up to the branch. -/
abbrev R (c : Dev nD) : sProp 𝕄 := iprop((∃ r, prngReg c r) ∗ (∃ W, owes (c : Thread nD τ) (0 : CellTallies nD τ sig Unit) W) ∗ Gh (F := F) c)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (R (F := F))

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the contents at the return, the generator
    register at some state. -/
abbrev Tₙ (c : Dev nD) : sProp 𝕄 := iprop(StableHlo.held (c : Thread nD τ) (Pipeline.ucRefs τ sig) (WE m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R (F := F) c)
  post c := iprop(StableHlo.held (c : Thread nD τ) (Pipeline.ucRefs τ sig) (W3 m ρ c) ∗ R (F := F) c)
  X c := iprop(∃ r, prngReg c r)
  Y c := iprop(∃ r, prngReg c r)
  Z c := iprop(Pipeline.unscopedRest (Ix := Unit) (Name := ℕ) (U := UU) (Lvl := ℕ) spec0 c (V2 m ρ c) ∗ Gh (F := F) c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) (A_eq0 (V2 m ρ) c)
    rw [Pipeline.unscopedBufs_held] at hsplit
    iintro ⟨⟨Hub, Hp, HO, HG⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hrest]; · iexact Hrest
    iexact HG
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UU) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest, HG⟩
    imodintro
    isplitl [Ha Hrest]
    · iapply hjoin; isplitl [Ha] <;> iassumption
    isplitl [HY]; · iexact HY
    isplitl [HO]
    · unfold Pipeline.Dat.owesAt Pipeline.owesWithin
      icases HO with ⟨%W, -, HO⟩; iexists W; iexact HO
    iexact HG

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R (F := F) c)
  post c := iprop(StableHlo.held (c : Thread nD τ) (Pipeline.ucRefs τ sig) (W4 m ρ c) ∗ R (F := F) c)
  X c := iprop(∃ r, prngReg c r)
  Y c := iprop(∃ r, prngReg c r)
  Z c := iprop(Pipeline.unscopedRest (Ix := Unit) (Name := ℕ) (U := UU) (Lvl := ℕ) spec1 c (V3 m ρ c) ∗ Gh (F := F) c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO, HG⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hrest]; · iexact Hrest
    iexact HG
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UU) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest, HG⟩
    imodintro
    isplitl [Ha Hrest]
    · iapply hjoin; isplitl [Ha] <;> iassumption
    isplitl [HY]; · iexact HY
    isplitl [HO]
    · unfold Pipeline.Dat.owesAt Pipeline.owesWithin
      icases HO with ⟨%W, -, HO⟩; iexists W; iexact HO
    iexact HG

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R (F := F) c)
  post c := iprop(StableHlo.held (c : Thread nD τ) (Pipeline.ucRefs τ sig) (W6 m ρ c) ∗ R (F := F) c)
  X c := iprop(∃ r, prngReg c r)
  Y c := iprop(∃ r, prngReg c r)
  Z c := iprop(Pipeline.unscopedRest (Ix := Unit) (Name := ℕ) (U := UU) (Lvl := ℕ) spec2 c (V5 m ρ c) ∗ Gh (F := F) c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO, HG⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Hrest]; · iexact Hrest
    iexact HG
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UU) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest, HG⟩
    imodintro
    isplitl [Ha Hrest]
    · iapply hjoin; isplitl [Ha] <;> iassumption
    isplitl [HY]; · iexact HY
    isplitl [HO]
    · unfold Pipeline.Dat.owesAt Pipeline.owesWithin
      icases HO with ⟨%W, -, HO⟩; iexists W; iexact HO
    iexact HG

-- `iapply` of a library lemma stated over `pin pcs a p` unifies with the pinned configuration only when unification may
-- unfold plain definitions in a metavariable's type
set_option backward.isDefEq.respectTransparency.types false in
/-- REGION 3 (custom_call 3) over the thread state: entered from every unscoped buffer at `W8`, left at `W9`
    (inside the second arm). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m ρ) c).loose
  hwaits := Pipeline.hwaits_of_owed_zero _ _ _ _ L lv 3 fun _ _ => rfl
  pre c := iprop(StableHlo.held (c : Thread nD τ) (Pipeline.ucRefs τ sig) (W8 m ρ c) ∗ Rw c)
  post c := iprop(StableHlo.held (c : Thread nD τ) (Pipeline.ucRefs τ sig) (W9 m ρ c) ∗ Rw c)
  X c := iprop(∃ r, prngReg c r)
  Y c := iprop(∃ r, prngReg c r)
  Z c := Pipeline.unscopedRest (Ix := Unit) (Name := ℕ) (U := UU) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) (A_eq3 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UU) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The branch as a host segment -/

/-- The branch as printed. -/
def caseProg : Prog (TpuEff nD τ sig (Elt F) (Pipeline.Sig Λ₀ (Fin 4) fun p => (pcfgs (F := F) p).Adm) .tc) PUnit :=
    (do
      let x_v19 ← hlo rfl (StableHlo.unary main_v18 main_v19 ((extui 32 · natLt_1_32) : (⟨S_, .i1⟩ : BufTy).Contents (Elt F) → (⟨S_, .i32⟩ : BufTy).Contents (Elt F))) (HostLoop.elt main_v19)
      HostLoop.case 2 x_v19 fun
        | 0 => do
            hlo rfl (StableHlo.unary main_v7 main_case0b0_values ((fun x => (Host.topK S4096x100 1 (FloatOps.cmpfTotal .gt) x sliceFits_S4096x784_S4096x100).1) : (⟨S4096x784, .f32⟩ : BufTy).Contents (Elt F) → (⟨S4096x100, .f32⟩ : BufTy).Contents (Elt F))) (fun _ => .ret ⟨⟩)
            hlo rfl (StableHlo.unary main_v7 main_case0b0_indices ((fun x => (Host.topK S4096x100 1 (FloatOps.cmpfTotal .gt) x sliceFits_S4096x784_S4096x100).2) : (⟨S4096x784, .f32⟩ : BufTy).Contents (Elt F) → (⟨S4096x100, .i32⟩ : BufTy).Contents (Elt F))) (fun _ => .ret ⟨⟩)
            fn_take_along_axis.body (.of main_v9) (.of main_case0b0_indices) main_case0b0_call1
            hlo rfl (StableHlo.unary main_case0b0_values main_v20_0 id) (fun _ => .ret ⟨⟩)
            hlo rfl (StableHlo.unary main_case0b0_v21 main_v20_1 id) (fun _ => .ret ⟨⟩)
            pure ⟨⟩
        | 1 => do
            Prog.lift (.customCall (Pipeline.entry 3) ())
            hlo rfl (StableHlo.unary main_case0b1_v21 main_case0b1_v22 ((extractStridedSlice S4096x100000 ![0, 0] · slices_S4096x100352_S4096x100000_0_0) : (⟨S4096x100352, .f32⟩ : BufTy).Contents (Elt F) → (⟨S4096x100000, .f32⟩ : BufTy).Contents (Elt F))) (fun _ => .ret ⟨⟩)
            hlo rfl (StableHlo.unary main_case0b1_v22 main_case0b1_values ((fun x => (Host.topK S4096x100 1 (FloatOps.cmpfTotal .gt) x sliceFits_S4096x100000_S4096x100).1) : (⟨S4096x100000, .f32⟩ : BufTy).Contents (Elt F) → (⟨S4096x100, .f32⟩ : BufTy).Contents (Elt F))) (fun _ => .ret ⟨⟩)
            hlo rfl (StableHlo.unary main_case0b1_v22 main_case0b1_indices ((fun x => (Host.topK S4096x100 1 (FloatOps.cmpfTotal .gt) x sliceFits_S4096x100000_S4096x100).2) : (⟨S4096x100000, .f32⟩ : BufTy).Contents (Elt F) → (⟨S4096x100, .i32⟩ : BufTy).Contents (Elt F))) (fun _ => .ret ⟨⟩)
            hlo rfl (StableHlo.unary main_case0b1_values main_v20_0 id) (fun _ => .ret ⟨⟩)
            hlo rfl (StableHlo.unary main_case0b1_indices main_v20_1 id) (fun _ => .ret ⟨⟩)
            pure ⟨⟩
        | ⟨_ + 2, h⟩ => absurd h (Nat.not_lt.2 (Nat.le_add_left _ _)) )

/-- The arms as the stretches above. -/
def armProg : Fin 2 → Prog (TpuEff nD τ sig (Elt F) (Pipeline.Sig Λ₀ (Fin 4) fun p => (pcfgs (F := F) p).Adm) .tc) PUnit
  | 0 => StableHlo.seq arm0Ops
  | 1 => Prog.lift (.customCall (Pipeline.entry 3) ()) >>= fun _ => StableHlo.seq arm1Ops

/-- The branch reads its word and runs the arm the word names. -/
theorem caseProg_eq : caseProg (F := F) = (do
    let x ← hlo rfl (StableHlo.unary main_v18 main_v19 ((extui 32 · natLt_1_32) : (⟨S_, .i1⟩ : BufTy).Contents (Elt F) → (⟨S_, .i32⟩ : BufTy).Contents (Elt F))) (HostLoop.elt main_v19)
    armProg (HostLoop.branch x 1)) := by
  unfold caseProg
  refine congrArg _ (funext fun x => ?_)
  rw [HostLoop.case_succ]
  generalize HostLoop.branch x 1 = b
  fin_cases b <;> chain_rfl

set_option backward.isDefEq.respectTransparency.types false in
/-- An arm, run from the contents after the read to the contents at the return: the first by its operations, the second
    through region 3, whose ghost state is the second copy's. -/
theorem arm_wp (c : Dev nD) (b : Fin 2) {β : Type}
    (k : PUnit → Prog (TpuEff nD τ sig (Elt F) (Pipeline.Sig Λ₀ (Fin 4) fun p => (pcfgs (F := F) p).Adm) .tc) β) (K : β → sProp 𝕄) :
    iprop((iprop(boundary (c.tc : Thread nD τ) ∗ StableHlo.held (c : Thread nD τ) (Pipeline.ucRefs τ sig) (Warm m ρ c b) ∗ Rw (F := F) c)
          -∗ wp frame (wpE (Pipeline.defs (pcfgs (F := F)) defs₀) (Variants.lift 𝒱₀) (c.tc : Thread nD τ) none) Set.univ (k ⟨⟩) K)
        ∗ boundary (c.tc : Thread nD τ) ∗ (StableHlo.held (c : Thread nD τ) (Pipeline.ucRefs τ sig) (W8 m ρ c) ∗ R (F := F) c) ∗ levAts L lv)
      ⊢ wp frame (wpE (Pipeline.defs (pcfgs (F := F)) defs₀) (Variants.lift 𝒱₀) (c.tc : Thread nD τ) none) Set.univ (armProg (F := F) b >>= k) K := by
  fin_cases b
  · have hseq := StableHlo.wp_seq (defs := Pipeline.defs (pcfgs (F := F)) defs₀) (Variants.lift 𝒱₀) none Set.univ c (Pipeline.ucRefs τ sig) k (K := K) arm0Ops
      (fun op h => Pipeline.sub_ucRefs op ((List.forall_iff_forall_mem.mp arm0Ops_sub) op h))
      (fun op h => (List.forall_iff_forall_mem.mp arm0Ops_fresh) op h) (W8 m ρ c)
    iintro ⟨Hk, Hbd, ⟨Hh, Hp, HO, -⟩, -⟩
    iapply hseq $$ [Hbd Hh]
    · isplitl [Hbd] <;> iassumption
    iintro ⟨Hbd, Hh⟩
    iapply Hk
    isplitl [Hbd]; · iexact Hbd
    isplitl [Hh]; · iexact Hh
    isplitl [Hp]; · iexact Hp
    iexact HO
  · have hseq := StableHlo.wp_seq (defs := Pipeline.defs (pcfgs (F := F)) defs₀) (Variants.lift 𝒱₀) none Set.univ c (Pipeline.ucRefs τ sig) k (K := K) arm1Ops
      (fun op h => Pipeline.sub_ucRefs op ((List.forall_iff_forall_mem.mp arm1Ops_sub) op h))
      (fun op h => (List.forall_iff_forall_mem.mp arm1Ops_fresh) op h) (W9 m ρ c)
    have hreg := Pipeline.RegionSeg.wp (pcfgs (F := F)) adm (pdats m ρ) () cellOf_inj (embAt (B := UR sig nD τ) (1 : Fin 2)) defs₀ 𝒱₀ L lv (reg3 m ρ) c none
      (fun _ h => absurd h (by simp)) (fun _ => StableHlo.seq arm1Ops >>= k) K
    rw [show (reg3 m ρ).pre c = iprop(StableHlo.held (c : Thread nD τ) (Pipeline.ucRefs τ sig) (W8 m ρ c) ∗ Rw (F := F) c) from rfl,
      show (reg3 m ρ).post c = iprop(StableHlo.held (c : Thread nD τ) (Pipeline.ucRefs τ sig) (W9 m ρ c) ∗ Rw (F := F) c) from rfl] at hreg
    refine BI.BIBase.Entails.trans ?_ hreg
    iintro ⟨Hk, Hbd, ⟨Hh, Hp, HO, Hg, Ht⟩, HL⟩
    isplitl [Hk]
    · iintro ⟨Hbd, Hh, HR⟩
      iapply hseq $$ [Hbd Hh]
      · isplitl [Hbd] <;> iassumption
      iintro ⟨Hbd, Hh⟩
      iapply Hk
      isplitl [Hbd]; · iexact Hbd
      isplitl [Hh]; · iexact Hh
      iexact HR
    isplitl [Hbd]; · iexact Hbd
    isplitl [Hh Hp HO]
    · isplitl [Hh]; · iexact Hh
      isplitl [Hp]; · iexact Hp
      iexact HO
    isplitl [HL]; · iexact HL
    isplitl [Hg]; · iexact Hg
    iexact Ht

set_option backward.isDefEq.respectTransparency.types false in
/-- The read, from any contents `V`: the program goes on with the word those contents give. -/
theorem read_wp (c : Dev nD) (V : Valuation τ sig (Elt F)) {β : Type}
    (k : BitVec 32 → Prog (TpuEff nD τ sig (Elt F) (Pipeline.Sig Λ₀ (Fin 4) fun p => (pcfgs (F := F) p).Adm) .tc) β) (K : β → sProp 𝕄) :
    iprop((iprop(boundary (c.tc : Thread nD τ) ∗ StableHlo.held (c : Thread nD τ) (Pipeline.ucRefs τ sig) (StableHlo.after rdOps V))
          -∗ wp frame (wpE (Pipeline.defs (pcfgs (F := F)) defs₀) (Variants.lift 𝒱₀) (c.tc : Thread nD τ) none) Set.univ
              (k (StableHlo.after rdOps V (Proc.devRef .tc main_v19) HostLoop.idx0)) K)
        ∗ boundary (c.tc : Thread nD τ) ∗ StableHlo.held (c : Thread nD τ) (Pipeline.ucRefs τ sig) V)
      ⊢ wp frame (wpE (Pipeline.defs (pcfgs (F := F)) defs₀) (Variants.lift 𝒱₀) (c.tc : Thread nD τ) none) Set.univ
          (hlo rfl (StableHlo.unary main_v18 main_v19 ((extui 32 · natLt_1_32) : (⟨S_, .i1⟩ : BufTy).Contents (Elt F) → (⟨S_, .i32⟩ : BufTy).Contents (Elt F))) (HostLoop.elt main_v19) >>= k) K := by
  rw [wp_bind, StableHlo.after_cons, StableHlo.after_nil]
  iintro ⟨Hk, Hbd, Hh⟩
  iapply (StableHlo.wp_hlo_within (Variants.lift 𝒱₀) (c : Thread nD τ) none Set.univ (Pipeline.sub_ucRefs _ (StableHlo.unary_bufs_sub ..))) $$ [Hbd Hh]
  · isplitl [Hbd]; · iexact Hbd
    iexact Hh
  iintro ⟨Hbd, Hh⟩
  rw [HostLoop.elt_apply, wp_ret]; imodintro
  iapply Hk
  isplitl [Hbd]; · iexact Hbd
  iexact Hh

set_option backward.isDefEq.respectTransparency.types false in
/-- The branch, from any contents `V`, when each arm takes the contents after the read to `A` at its own index. -/
theorem case_wp (c : Dev nD) (V : Valuation τ sig (Elt F)) (A : Fin 2 → Valuation τ sig (Elt F)) {β : Type}
    (k : PUnit → Prog (TpuEff nD τ sig (Elt F) (Pipeline.Sig Λ₀ (Fin 4) fun p => (pcfgs (F := F) p).Adm) .tc) β) (K : β → sProp 𝕄)
    (harm : ∀ b : Fin 2, iprop((iprop(boundary (c.tc : Thread nD τ) ∗ StableHlo.held (c : Thread nD τ) (Pipeline.ucRefs τ sig) (A b) ∗ Rw (F := F) c)
          -∗ wp frame (wpE (Pipeline.defs (pcfgs (F := F)) defs₀) (Variants.lift 𝒱₀) (c.tc : Thread nD τ) none) Set.univ (k ⟨⟩) K)
        ∗ boundary (c.tc : Thread nD τ) ∗ (StableHlo.held (c : Thread nD τ) (Pipeline.ucRefs τ sig) (StableHlo.after rdOps V) ∗ R (F := F) c) ∗ levAts L lv)
      ⊢ wp frame (wpE (Pipeline.defs (pcfgs (F := F)) defs₀) (Variants.lift 𝒱₀) (c.tc : Thread nD τ) none) Set.univ (armProg (F := F) b >>= k) K) :
    iprop((iprop(boundary (c.tc : Thread nD τ) ∗ iprop(StableHlo.held (c : Thread nD τ) (Pipeline.ucRefs τ sig)
              (A (HostLoop.branch (StableHlo.after rdOps V (Proc.devRef .tc main_v19) HostLoop.idx0) 1)) ∗ ∃ r, prngReg c r)
            ∗ ∃ W, owes (c : Thread nD τ) (0 : CellTallies nD τ sig Unit) W)
          -∗ wp frame (wpE (Pipeline.defs (pcfgs (F := F)) defs₀) (Variants.lift 𝒱₀) (c.tc : Thread nD τ) none) Set.univ (k ⟨⟩) K)
        ∗ boundary (c.tc : Thread nD τ) ∗ (StableHlo.held (c : Thread nD τ) (Pipeline.ucRefs τ sig) V ∗ R (F := F) c) ∗ levAts L lv)
      ⊢ wp frame (wpE (Pipeline.defs (pcfgs (F := F)) defs₀) (Variants.lift 𝒱₀) (c.tc : Thread nD τ) none) Set.univ (caseProg (F := F) >>= k) K := by
  rw [caseProg_eq, bind_assoc]
  refine BI.BIBase.Entails.trans ?_ (read_wp c V _ K)
  have h := harm (HostLoop.branch (StableHlo.after rdOps V (Proc.devRef .tc main_v19) HostLoop.idx0) 1)
  generalize StableHlo.after rdOps V (Proc.devRef .tc main_v19) HostLoop.idx0 = w at h ⊢
  generalize StableHlo.after rdOps V = V' at h ⊢
  iintro ⟨Hk, Hbd, ⟨Hh, HR⟩, HL⟩
  isplitr [Hbd Hh]
  · iintro ⟨Hbd, Hh⟩
    iapply h
    isplitl [Hk]
    · iintro ⟨Hbd, Hh, Hp, HO⟩
      iapply Hk
      isplitl [Hbd]; · iexact Hbd
      isplitr [HO]
      · isplitl [Hh]; · iexact Hh
        iexact Hp
      iexact HO
    isplitl [Hbd]; · iexact Hbd
    isplitr [HL]
    · isplitl [Hh]; · iexact Hh
      iexact HR
    iexact HL
  isplitl [Hbd]; · iexact Hbd
  iexact Hh

/-- THE BRANCH as one segment. -/
def caseSeg : Pipeline.HostSeg (Name := ℕ) (U := UU) (pcfgs (F := F)) defs₀ 𝒱₀ L lv where
  prog := caseProg
  pre c := iprop(StableHlo.held (c : Thread nD τ) (Pipeline.ucRefs τ sig) (W7 m ρ c) ∗ R (F := F) c)
  post c := iprop(Tₙ m ρ c ∗ ∃ W, owes (c : Thread nD τ) (0 : CellTallies nD τ sig Unit) W)
  run c {β} k K := case_wp c (W7 m ρ c) (Warm m ρ c) k K fun b => arm_wp m ρ c b k K

/-! ## @main as segments, and the launch -/

/-- @main's 8 segments in order: a host segment per stretch from its boundary's contents, a region per pallas_call of the straight line, the branch a segment of its own. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .region (reg1 m ρ),
    .host (hseg hostOps2 hostOps2_sub hostOps2_fresh (W4 m ρ)),
    .region (reg2 m ρ),
    .host (hseg hostOps3 hostOps3_sub hostOps3_fresh (W6 m ρ)),
    .host (caseSeg m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The launch element: the first copy funds the straight line; of the second, region 3's share is kept for the branch. -/
theorem launch_fund : (ownU ((fun _ : Fin 2 => initOf (Pipeline.cells (Pipeline.pin (pcfgs (F := F)) adm) cellOf_inj) (Pipeline.launchToks (Pipeline.pin (pcfgs (F := F)) adm) cellOf_inj), 1) : UU) : sProp 𝕄)
    ⊢ |={Set.univ}=> iprop(BI.own ((embAt (B := UR sig nD τ) (0 : Fin 2)) (initOf (Pipeline.cells (Pipeline.pin (pcfgs (F := F)) adm) cellOf_inj) (Pipeline.launchToks (Pipeline.pin (pcfgs (F := F)) adm) cellOf_inj)))
      ∗ bigSep Finset.univ fun c : Dev nD => Gh (F := F) c) := by
  have h0 := own_iprod (nD := nD) (τ := τ) (sig := sig) (Ix := Unit) (Val := Elt F) (Name := ℕ) (Lvl := ℕ) (B := UR sig nD τ)
    (fun _ : Fin 2 => initOf (Pipeline.cells (Pipeline.pin (pcfgs (F := F)) adm) cellOf_inj) (Pipeline.launchToks (Pipeline.pin (pcfgs (F := F)) adm) cellOf_inj))
  rw [bigSep_fin_two] at h0
  replace h0 := (show _ ⊢ iprop(_ ∗ _) from h0)
  have h1 := Pipeline.fund_ghost (Pipeline.pin (pcfgs (F := F)) adm) (embAt (nD := nD) (τ := τ) (sig := sig) (Ix := Unit) (Val := Elt F) (Name := ℕ) (Lvl := ℕ) (A := UR sig nD τ) (B := UR sig nD τ) (1 : Fin 2)) cellOf_inj
  have hpick : ∀ Φ : Fin 4 → sProp 𝕄, (bigSep Finset.univ Φ : sProp 𝕄) ⊢ Φ 3 := fun Φ => bigSep_elim (Finset.mem_univ _)
  have h2 : iprop((bigSep Finset.univ fun c : Dev nD => bigSep Finset.univ fun p => Pipeline.cellsGhost (Pipeline.pin (pcfgs (F := F)) adm) (embAt (B := UR sig nD τ) (1 : Fin 2)) p c)
      ∗ (bigSep Finset.univ fun c : Dev nD => bigSep Finset.univ fun p => Pipeline.toksInit (Pipeline.pin (pcfgs (F := F)) adm) (embAt (B := UR sig nD τ) (1 : Fin 2)) p c))
      ⊢ (bigSep Finset.univ fun c : Dev nD => Gh (F := F) c : sProp 𝕄) := by
    rw [← bigSep_sep']
    refine bigSep_mono fun c _ => (show iprop(_ ∗ _) ⊢ (Gh (F := F) c : sProp 𝕄) from ?_)
    iintro ⟨Ha, Hb⟩
    isplitl [Ha]
    · iapply (hpick fun p => Pipeline.cellsGhost (Pipeline.pin (pcfgs (F := F)) adm) (embAt (B := UR sig nD τ) (1 : Fin 2)) p c); iexact Ha
    iapply (hpick fun p => Pipeline.toksInit (Pipeline.pin (pcfgs (F := F)) adm) (embAt (B := UR sig nD τ) (1 : Fin 2)) p c); iexact Hb
  iintro Hu
  ihave Hu' := (ownU_pair _ _) $$ Hu
  icases Hu' with ⟨Hu, -⟩
  ihave H := h0 $$ Hu
  icases H with ⟨Ha, Hb⟩
  imod h1 $$ Hb with H
  imodintro
  isplitl [Ha]; · iexact Ha
  iapply h2
  iexact H

set_option backward.isDefEq.respectTransparency.types false in
/-- THE RUN: from any memory with zero counters every weakly fair execution terminates, nothing faults, every unscoped
    TensorCore buffer ends at `WE`, and every counter ends at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = WE m ρ c b) ∧ r.2.sem = fun _ => 0) :=
  Pipeline.θ_run_regions_kit_sems (pcfgs (F := F)) adm (pdats m ρ) () cellOf_inj (embAt (B := UR sig nD τ) (0 : Fin 2)) defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun c => Gh (F := F) c)
    (u₀ := (fun _ : Fin 2 => initOf (Pipeline.cells (Pipeline.pin (pcfgs (F := F)) adm) cellOf_inj) (Pipeline.launchToks (Pipeline.pin (pcfgs (F := F)) adm) cellOf_inj), 1))
    (hu₀ := launch_fund)
    (T₀ := fun c => iprop(StableHlo.held (c : Thread nD τ) (Pipeline.ucRefs τ sig) (W0 m ρ c) ∗ R (F := F) c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, HG⟩, -⟩
      imodintro
      isplitl [Hh]; · iexact Hh
      isplitl [Hp]; · iexists _; iexact Hp
      isplitl [HO]; · iexists ∅; iexact HO
      iexact HG)
    (QY := fun c s => ∀ b ∈ Pipeline.ucRefs τ sig, s.mem (((c : Thread nD τ)).1, b) = WE m ρ c b)
    (hfin := fun c s' => by
      iintro ⟨⟨Hh, -⟩, HSI⟩
      unfold StableHlo.held
      imodintro
      iapply (pointsTo_read_all (Pipeline.ucRefs τ sig) (fun b => (((c : Thread nD τ)).1, b)) (WE m ρ c) s')
      isplitl [Hh] <;> iassumption)
    (hQ := fun s h hz => ⟨h, funext fun g => hz g (.inr (no_unscoped g.2))⟩)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1 c _ (mem_uc main_arg0 (by decide))).trans (WE_args m ρ c main_arg0 (by decide)),
     (h.1 c _ (mem_uc main_arg1 (by decide))).trans (WE_args m ρ c main_arg1 (by decide))⟩, h.2⟩) (run m ρ)

end Run

end Cert.KernelIdeal.Hand

end
-- ==== Proof.Steps2.lean ====
/- The extraction kernel's block, said with few words: a round over a lane's sixteen entries (`mxG`, `atG`, `outG`), what a round
   keeps (`keepV`, `keepI`), the stack of the four rounds, a round over the stacked row (`mxS`, `hitS`, `outS`, `idS`), and the
   block's three results as these. -/
module

public import proofs.«01_k».proof.Proof.BodyI2

@[expose] public section

set_option maxRecDepth 16384

noncomputable section

namespace Cert.KernelIdeal.Hand

open Cert.KernelIdeal.Gen
open Idealize.ShloMosaic Idealize.ShloMosaic.TcCoe

variable {F : FTy → Type} [FloatOps F]

/-! ## A round over the sixteen entries of a lane -/

/-- The number of an entry in its lane. -/
abbrev ioG : IVec S512x16x128 32 := iota .tc S512x16x128 32 [1] iota_S512x16x128_d1_w32
/-- The largest of a lane's entries. -/
def mxG (w : FVec F S512x16x128 .f32) : FVec F S512x128 .f32 :=
  multiReduction .maximumf [1] S512x128 w 0xFF800000#32 reduces_S512x16x128_S512x128 (.inl rfl) rfl
/-- The first entry of a lane that is the largest. -/
def atG (w : FVec F S512x16x128 .f32) : IVec S512x128 32 :=
  multiReductionI .minsi [1] S512x128
    (select (cmpf .oeq w (broadcastTo S512x16x128 (shapeCast S512x1x128 (mxG w) shapeCasts_S512x128_S512x1x128) broadcasts_S512x1x128_S512x16x128))
      ioG (broadcast S512x16x128 16#32)) 2147483647#32 reduces_S512x16x128_S512x128 rfl
/-- The lanes with that entry struck out. -/
def outG (w : FVec F S512x16x128 .f32) : FVec F S512x16x128 .f32 :=
  select (cmpi .eq ioG (broadcastTo S512x16x128 (shapeCast S512x1x128 (atG w) shapeCasts_S512x128_S512x1x128) broadcasts_S512x1x128_S512x16x128))
    (broadcast S512x16x128 (Scalar.ofBits .f32 0xFF800000#32)) w
/-- Which lanes' largest entry reaches the threshold. -/
def keepG (t : FVec F S512x1 .f32) (w : FVec F S512x16x128 .f32) : IVec S512x128 1 :=
  cmpf .oge (mxG w) (broadcastTo S512x128 t broadcasts_S512x1_S512x128)
/-- The largest entry where it reaches the threshold. -/
def keepV (t : FVec F S512x1 .f32) (w : FVec F S512x16x128 .f32) : FVec F S512x128 .f32 :=
  select (keepG t w) (mxG w) (broadcast S512x128 (Scalar.ofBits .f32 0xFF800000#32))
/-- The candidate it belongs to. -/
def keepI (b : BitVec 32) (t : FVec F S512x1 .f32) (w : FVec F S512x16x128 .f32) : IVec S512x128 32 :=
  select (keepG t w)
    (addi (addi (broadcast S512x128 (Scalar.muli b 2048#32)) (muli (atG w) (broadcast S512x128 128#32))) (iota .tc S512x128 32 [1] iota_S512x128_d1_w32))
    (broadcast S512x128 0#32)
/-- The four rounds' kept values side by side … -/
def stackV (t : FVec F S512x1 .f32) (w : FVec F S512x16x128 .f32) : FVec F S512x512 .f32 :=
  concatenate S512x512 1 [⟨S512x128, keepV t w⟩, ⟨S512x128, keepV t (outG w)⟩, ⟨S512x128, keepV t (outG (outG w))⟩, ⟨S512x128, keepV t (outG (outG (outG w)))⟩]
    concatenates_S512x128_S512x128_S512x128_S512x128_S512x512_d1
/-- … and their candidates. -/
def stackI (b : BitVec 32) (t : FVec F S512x1 .f32) (w : FVec F S512x16x128 .f32) : IVec S512x512 32 :=
  concatenate S512x512 1 [⟨S512x128, keepI b t w⟩, ⟨S512x128, keepI b t (outG w)⟩, ⟨S512x128, keepI b t (outG (outG w))⟩, ⟨S512x128, keepI b t (outG (outG (outG w)))⟩]
    concatenates_S512x128_S512x128_S512x128_S512x128_S512x512_d1

/-! ## A round over the stacked row -/

/-- The number of an entry in its row. -/
abbrev ioS : IVec S512x512 32 := iota .tc S512x512 32 [1] iota_S512x512_d1_w32
/-- The largest of a row. -/
def mxS (V : FVec F S512x512 .f32) : FVec F S512x1 .f32 :=
  shapeCast S512x1 (multiReduction .maximumf [1] S512 V 0xFF800000#32 reduces_S512x512_S512 (.inl rfl) rfl) shapeCasts_S512_S512x1
/-- Where a row's entry is the largest, its number. -/
def selS (V : FVec F S512x512 .f32) : IVec S512x512 32 :=
  select (cmpf .oeq V (broadcastTo S512x512 (mxS V) broadcasts_S512x1_S512x512)) ioS (broadcast S512x512 512#32)
/-- The first entry of a row that is the largest. -/
def hitS (V : FVec F S512x512 .f32) : IVec S512x512 1 :=
  cmpi .eq ioS (broadcastTo S512x512 (shapeCast S512x1 (multiReductionI .minsi [1] S512 (selS V) 2147483647#32 reduces_S512x512_S512 rfl)
    shapeCasts_S512_S512x1) broadcasts_S512x1_S512x512)
/-- The row with it struck out. -/
def outS (V : FVec F S512x512 .f32) : FVec F S512x512 .f32 := select (hitS V) (broadcast S512x512 (Scalar.ofBits .f32 0xFF800000#32)) V
/-- Its candidate. -/
def idS (I : IVec S512x512 32) (V : FVec F S512x512 .f32) : IVec S512x1 32 :=
  shapeCast S512x1 (multiReductionI .add [1] S512 (select (hitS V) I (broadcast S512x512 0#32)) 0#32 reduces_S512x512_S512 rfl) shapeCasts_S512_S512x1
/-- The row after a number of rounds. -/
def roundS (V : FVec F S512x512 .f32) : Nat → FVec F S512x512 .f32
  | 0 => V
  | e + 1 => outS (roundS V e)

/-! ## The block's named values are these -/

section
variable (i : grid2.Coords) (x0 : Vec F S512x128 .f32) (x1 : Vec F S2048x128 .f32) (x2 : Vec F S512x128 .f32)

/-- The threshold column of the block. -/
abbrev thr2 (x2 : Vec F S512x128 .f32) : FVec F S512x1 .f32 := k2_pay1 (View.ld x2 r2_0)
/-- The scores of the block. -/
abbrev sc2 (i : grid2.Coords) (x0 : Vec F S512x128 .f32) (x1 : Vec F S2048x128 .f32) : FVec F S512x16x128 .f32 := k2_pay2 i (View.ld x0 r2_0) (View.ld x1 r2_1)

theorem pay105_eq : k2_pay105 i x0 x1 x2 = stackV (thr2 x2) (sc2 i x0 x1) := rfl
theorem pay106_eq : k2_pay106 i x0 x1 x2 = stackI (BitVec.ofNat 32 (i 1).val) (thr2 x2) (sc2 i x0 x1) := rfl
theorem pay107_eq : k2_pay107 i x0 x1 x2 = selS (k2_pay105 i x0 x1 x2) := rfl
theorem pay27_eq (i : grid2.Coords) (x0 : Vec F S512x128 .f32) (x1 : Vec F S2048x128 .f32) (x2 : Vec F S512x128 .f32) :
    k2_pay27 (k2_pay95 i x0 x1 x2) (k2_pay93 i x0 x1 x2) (k2_pay99 i x0 x1 x2) (k2_pay100 i x0 x1 x2) (k2_pay101 i x0 x1 x2) (k2_pay102 i x0 x1 x2) (k2_pay103 i x0 x1 x2)
      = mxS (k2_pay105 i x0 x1 x2) := rfl
end

/-- Which entries of a row are the largest. -/
def isS (V : FVec F S512x512 .f32) : IVec S512x512 1 := cmpf .oeq V (broadcastTo S512x512 (mxS V) broadcasts_S512x1_S512x512)

theorem pay32_eq (V : FVec F S512x512 .f32) : k2_pay32 V ioS (selS V) = mxS (outS V) := rfl
theorem pay36_eq (V : FVec F S512x512 .f32) : k2_pay36 V ioS (selS V) = mxS (outS (outS V)) := rfl
theorem pay39_eq (V : FVec F S512x512 .f32) : k2_pay39 V ioS (selS V) = (outS (outS (outS V))) := rfl
theorem pay40_eq (V : FVec F S512x512 .f32) : k2_pay40 V ioS (selS V) = mxS (outS (outS (outS V))) := rfl
theorem pay44_eq (V : FVec F S512x512 .f32) : k2_pay44 ioS V (mxS V) = mxS (outS V) := rfl
theorem pay48_eq (V : FVec F S512x512 .f32) : k2_pay48 ioS V (mxS V) = mxS (outS (outS V)) := rfl
theorem pay47_eq (V : FVec F S512x512 .f32) : k2_pay47 ioS V (mxS V) = (outS (outS V)) := rfl
theorem pay49_eq (V : FVec F S512x512 .f32) : k2_pay49 ioS V (mxS V) = hitS (outS (outS V)) := rfl
theorem pay52_eq (V : FVec F S512x512 .f32) : k2_pay52 V (hitS V) = mxS (outS V) := rfl
theorem pay56_eq (V : FVec F S512x512 .f32) : k2_pay56 ioS V (hitS V) = mxS (outS (outS V)) := rfl
theorem pay59_eq (V : FVec F S512x512 .f32) : k2_pay59 ioS V (hitS V) = (outS (outS (outS V))) := rfl
theorem pay60_eq (V : FVec F S512x512 .f32) : k2_pay60 ioS V (hitS V) = mxS (outS (outS (outS V))) := rfl
theorem pay61_eq (V : FVec F S512x512 .f32) : k2_pay61 ioS V (hitS V) = hitS (outS (outS (outS V))) := rfl
theorem pay64_eq (V : FVec F S512x512 .f32) : k2_pay64 V (hitS V) = mxS (outS V) := rfl
theorem pay68_eq (V : FVec F S512x512 .f32) : k2_pay68 ioS V (hitS V) = mxS (outS (outS V)) := rfl
theorem pay71_eq (V : FVec F S512x512 .f32) : k2_pay71 ioS V (hitS V) = (outS (outS (outS V))) := rfl
theorem pay72_eq (V : FVec F S512x512 .f32) : k2_pay72 ioS V (hitS V) = mxS (outS (outS (outS V))) := rfl
theorem pay73_eq (V : FVec F S512x512 .f32) : k2_pay73 ioS V (hitS V) = isS (outS (outS (outS V))) := rfl
theorem pay78_eq (V : FVec F S512x512 .f32) : k2_pay78 ioS V (isS V) k2_pay74 = mxS (outS V) := rfl
theorem pay82_eq (V : FVec F S512x512 .f32) : k2_pay82 ioS V (isS V) k2_pay74 = mxS (outS (outS V)) := rfl
theorem pay85_eq (V : FVec F S512x512 .f32) : k2_pay85 ioS V (isS V) k2_pay74 = (outS (outS (outS V))) := rfl
theorem pay30_eq (I : IVec S512x512 32) (V : FVec F S512x512 .f32) : k2_pay30 I ioS (selS V) = idS I V := rfl
theorem pay34_eq (I : IVec S512x512 32) (V : FVec F S512x512 .f32) : k2_pay34 V I ioS (selS V) = idS I (outS V) := rfl
theorem pay38_eq (I : IVec S512x512 32) (V : FVec F S512x512 .f32) : k2_pay38 V I ioS (selS V) = idS I (outS (outS V)) := rfl
theorem pay42_eq (I : IVec S512x512 32) (V : FVec F S512x512 .f32) : k2_pay42 I ioS V (mxS V) = idS I V := rfl
theorem pay46_eq (I : IVec S512x512 32) (V : FVec F S512x512 .f32) : k2_pay46 I ioS V (mxS V) = idS I (outS V) := rfl
theorem pay50_eq (I : IVec S512x512 32) (V : FVec F S512x512 .f32) : k2_pay50 I ioS V (mxS V) = idS I (outS (outS V)) := rfl
theorem pay54_eq (I : IVec S512x512 32) (V : FVec F S512x512 .f32) : k2_pay54 I ioS V (hitS V) = idS I (outS V) := rfl
theorem pay58_eq (I : IVec S512x512 32) (V : FVec F S512x512 .f32) : k2_pay58 I ioS V (hitS V) = idS I (outS (outS V)) := rfl
theorem pay62_eq (I : IVec S512x512 32) (V : FVec F S512x512 .f32) : k2_pay62 I (hitS V) = idS I V := rfl
theorem pay66_eq (I : IVec S512x512 32) (V : FVec F S512x512 .f32) : k2_pay66 I ioS V (hitS V) = idS I (outS V) := rfl
theorem pay70_eq (I : IVec S512x512 32) (V : FVec F S512x512 .f32) : k2_pay70 I ioS V (hitS V) = idS I (outS (outS V)) := rfl
theorem pay76_eq (I : IVec S512x512 32) (V : FVec F S512x512 .f32) : k2_pay76 I ioS (isS V) k2_pay74 = idS I V := rfl
theorem pay80_eq (I : IVec S512x512 32) (V : FVec F S512x512 .f32) : k2_pay80 I ioS V (isS V) k2_pay74 = idS I (outS V) := rfl
theorem pay84_eq (I : IVec S512x512 32) (V : FVec F S512x512 .f32) : k2_pay84 I ioS V (isS V) k2_pay74 = idS I (outS (outS V)) := rfl

/-- The sixteen rounds' largest entries, side by side … -/
def blockV (V : FVec F S512x512 .f32) : FVec F S512x16 .f32 :=
  concatenate S512x16 1 [⟨S512x1, mxS (roundS V 0)⟩, ⟨S512x1, mxS (roundS V 1)⟩, ⟨S512x1, mxS (roundS V 2)⟩, ⟨S512x1, mxS (roundS V 3)⟩, ⟨S512x1, mxS (roundS V 4)⟩, ⟨S512x1, mxS (roundS V 5)⟩, ⟨S512x1, mxS (roundS V 6)⟩, ⟨S512x1, mxS (roundS V 7)⟩, ⟨S512x1, mxS (roundS V 8)⟩, ⟨S512x1, mxS (roundS V 9)⟩, ⟨S512x1, mxS (roundS V 10)⟩, ⟨S512x1, mxS (roundS V 11)⟩, ⟨S512x1, mxS (roundS V 12)⟩, ⟨S512x1, mxS (roundS V 13)⟩, ⟨S512x1, mxS (roundS V 14)⟩, ⟨S512x1, mxS (roundS V 15)⟩] concatenates_S512x1_S512x1_S512x1_S512x1_S512x1_S512x1_S512x1_S512x1_S512x1_S512x1_S512x1_S512x1_S512x1_S512x1_S512x1_S512x1_S512x16_d1
/-- … and their candidates. -/
def blockI (I : IVec S512x512 32) (V : FVec F S512x512 .f32) : IVec S512x16 32 :=
  concatenate S512x16 1 [⟨S512x1, idS I (roundS V 0)⟩, ⟨S512x1, idS I (roundS V 1)⟩, ⟨S512x1, idS I (roundS V 2)⟩, ⟨S512x1, idS I (roundS V 3)⟩, ⟨S512x1, idS I (roundS V 4)⟩, ⟨S512x1, idS I (roundS V 5)⟩, ⟨S512x1, idS I (roundS V 6)⟩, ⟨S512x1, idS I (roundS V 7)⟩, ⟨S512x1, idS I (roundS V 8)⟩, ⟨S512x1, idS I (roundS V 9)⟩, ⟨S512x1, idS I (roundS V 10)⟩, ⟨S512x1, idS I (roundS V 11)⟩, ⟨S512x1, idS I (roundS V 12)⟩, ⟨S512x1, idS I (roundS V 13)⟩, ⟨S512x1, idS I (roundS V 14)⟩, ⟨S512x1, idS I (roundS V 15)⟩] concatenates_S512x1_S512x1_S512x1_S512x1_S512x1_S512x1_S512x1_S512x1_S512x1_S512x1_S512x1_S512x1_S512x1_S512x1_S512x1_S512x1_S512x16_d1

theorem pay90_eq (V : FVec F S512x512 .f32) : k2_pay90 ioS (mxS (roundS V 0)) (mxS (roundS V 1)) (mxS (roundS V 2)) (mxS (roundS V 3)) (mxS (roundS V 4)) (mxS (roundS V 5)) (mxS (roundS V 6)) (mxS (roundS V 7)) (mxS (roundS V 8)) (mxS (roundS V 9)) (mxS (roundS V 10)) (mxS (roundS V 11)) (mxS (roundS V 12)) (mxS (roundS V 13)) (roundS V 14)
    = shapeCast S1x512x16 (blockV V) shapeCasts_S512x16_S1x512x16 := rfl
theorem pay91_eq (I : IVec S512x512 32) (V : FVec F S512x512 .f32) : k2_pay91 I ioS (idS I (roundS V 0)) (idS I (roundS V 1)) (idS I (roundS V 2)) (idS I (roundS V 3)) (idS I (roundS V 4)) (idS I (roundS V 5)) (idS I (roundS V 6)) (idS I (roundS V 7)) (idS I (roundS V 8)) (idS I (roundS V 9)) (idS I (roundS V 10)) (idS I (roundS V 11)) (idS I (roundS V 12)) (idS I (roundS V 13)) (roundS V 14)
    = shapeCast S1x512x16 (blockI I V) shapeCasts_S512x16_S1x512x16 := rfl

section
variable (i : grid2.Coords) (x0 : Vec F S512x128 .f32) (x1 : Vec F S2048x128 .f32) (x2 : Vec F S512x128 .f32)

theorem pay108_eq : k2_pay108 i x0 x1 x2 = roundS (k2_pay105 i x0 x1 x2) 3 := by
  unfold k2_pay108; rw [pay107_eq]; exact pay39_eq _
theorem pay109_eq : k2_pay109 i x0 x1 x2 = mxS (roundS (k2_pay105 i x0 x1 x2) 3) := by
  unfold k2_pay109; rw [pay107_eq]; exact pay40_eq _
theorem pay110_eq : k2_pay110 i x0 x1 x2 = roundS (k2_pay105 i x0 x1 x2) 5 := by
  unfold k2_pay110; rw [pay108_eq, pay109_eq]; exact pay47_eq _
theorem pay111_eq : k2_pay111 i x0 x1 x2 = hitS (roundS (k2_pay105 i x0 x1 x2) 5) := by
  unfold k2_pay111; rw [pay108_eq, pay109_eq]; exact pay49_eq _
theorem pay112_eq : k2_pay112 i x0 x1 x2 = roundS (k2_pay105 i x0 x1 x2) 8 := by
  unfold k2_pay112; rw [pay110_eq, pay111_eq]; exact pay59_eq _
theorem pay113_eq : k2_pay113 i x0 x1 x2 = hitS (roundS (k2_pay105 i x0 x1 x2) 8) := by
  unfold k2_pay113; rw [pay110_eq, pay111_eq]; exact pay61_eq _
theorem pay114_eq : k2_pay114 i x0 x1 x2 = roundS (k2_pay105 i x0 x1 x2) 11 := by
  unfold k2_pay114; rw [pay112_eq, pay113_eq]; exact pay71_eq _
theorem pay115_eq : k2_pay115 i x0 x1 x2 = isS (roundS (k2_pay105 i x0 x1 x2) 11) := by
  unfold k2_pay115; rw [pay112_eq, pay113_eq]; exact pay73_eq _
theorem pay116_eq : k2_pay116 i x0 x1 x2 = k2_pay74 := rfl
theorem pay104_eq : k2_pay104 i x0 x1 x2 = ioS := rfl
theorem pay117_eq : k2_pay117 i x0 x1 x2 = roundS (k2_pay105 i x0 x1 x2) 14 := by
  unfold k2_pay117; rw [pay114_eq, pay115_eq, pay116_eq]; exact pay85_eq _

/-- The block's values: the sixteen rounds over the stacked row. -/
theorem out2_3_eq : out2_3 i x0 x1 x2
    = View.canon [⟨r2_2, shapeCast S1x512x16 (blockV (stackV (thr2 x2) (sc2 i x0 x1))) shapeCasts_S512x16_S1x512x16⟩] := by
  unfold out2_3
  rw [pay27_eq, pay107_eq, pay109_eq, pay108_eq, pay110_eq, pay111_eq, pay112_eq, pay113_eq, pay114_eq, pay115_eq, pay116_eq, pay117_eq, pay104_eq,
    pay105_eq]
  generalize stackV (thr2 x2) (sc2 i x0 x1) = V
  rw [pay32_eq, pay36_eq, pay44_eq, pay48_eq, pay52_eq, pay56_eq, pay60_eq, pay64_eq, pay68_eq, pay72_eq, pay78_eq, pay82_eq]
  exact congrArg (fun z => View.canon [⟨r2_2, z⟩]) (pay90_eq V)

/-- The block's candidates. -/
theorem out2_4_eq : out2_4 i x0 x1 x2
    = View.canon [⟨r2_2, shapeCast S1x512x16 (blockI (stackI (BitVec.ofNat 32 (i 1).val) (thr2 x2) (sc2 i x0 x1)) (stackV (thr2 x2) (sc2 i x0 x1)))
        shapeCasts_S512x16_S1x512x16⟩] := by
  unfold out2_4
  rw [pay107_eq, pay109_eq, pay108_eq, pay110_eq, pay111_eq, pay112_eq, pay113_eq, pay114_eq, pay115_eq, pay116_eq, pay117_eq, pay104_eq,
    pay105_eq, pay106_eq]
  generalize stackV (thr2 x2) (sc2 i x0 x1) = V
  generalize stackI (BitVec.ofNat 32 (i 1).val) (thr2 x2) (sc2 i x0 x1) = I
  rw [pay30_eq, pay34_eq, pay38_eq, pay42_eq, pay46_eq, pay50_eq, pay54_eq, pay58_eq, pay62_eq, pay66_eq, pay70_eq, pay76_eq, pay80_eq, pay84_eq]
  exact congrArg (fun z => View.canon [⟨r2_2, z⟩]) (pay91_eq I V)
end

end Cert.KernelIdeal.Hand

end
-- ==== Proof.Rank.lean ====
/- Sorting a row, by counting: the entry a descending sort puts at place `k` is at least `v` exactly when more than `k` entries of the row are. -/
module

public import Idealize.ShloMosaic.Lib.SortFacts
public import Mathlib.Order.Interval.Finset.Fin
public import Mathlib.Order.BoundedOrder.Basic

@[expose] public section

namespace Cert.Rows

open Idealize.ShloMosaic

variable {α : Type} [LinearOrder α]

/-- The places of the row `x` in descending order, equal entries in the order of their places. -/
def places {n : Nat} (x : Fin n → α) : Fin n → Fin n := sortedFrom fun a b => decide (x b < x a)

/-- How many entries of `x` are at least `v`. -/
def cnt {ι : Type} [Fintype ι] (x : ι → α) (v : α) : Nat := (Finset.univ.filter fun p => v ≤ x p).card

theorem places_injective {n : Nat} (x : Fin n → α) : Function.Injective (places x) := sortedFrom_injective _

/-- The sorted row descends. -/
theorem places_antitone {n : Nat} (x : Fin n → α) (i j : Fin n) (h : i < j) : x (places x j) ≤ x (places x i) := by
  have hp := pairwise_stableSort (fun a b => decide (x b < x a)) (fun a b => decide (x b < x a))
    (fun a b hab => by simp only [decide_eq_true_eq, decide_eq_false_iff_not] at *; exact not_lt.mpr hab.le)
    (fun _ _ h => h)
    (fun a b c hab hbc => by simp only [decide_eq_false_iff_not, not_lt] at *; exact hab.trans hbc)
    (List.finRange n)
  have := (List.pairwise_iff_getElem.mp hp) i.val j.val
    (by rw [length_stableSort, List.length_finRange]; exact i.isLt) (by rw [length_stableSort, List.length_finRange]; exact j.isLt) h
  simp only [decide_eq_false_iff_not, not_lt] at this
  exact this

/-- The entry at place `k` is at least `v` exactly when more than `k` entries are. -/
theorem le_places_iff {n : Nat} (x : Fin n → α) (v : α) (k : Fin n) : v ≤ x (places x k) ↔ k.val < cnt x v := by
  classical
  have hb : Function.Bijective (places x) := Finite.injective_iff_bijective.mp (places_injective x)
  have hc : cnt x v = (Finset.univ.filter fun k => v ≤ x (places x k)).card := by
    unfold cnt
    refine (Finset.card_bij (fun k _ => places x k) ?_ ?_ ?_).symm
    · intro a ha; simpa using ha
    · intro a _ b _ h; exact places_injective x h
    · intro b hb'
      obtain ⟨a, rfl⟩ := hb.2 b
      exact ⟨a, by simpa using hb', rfl⟩
  rw [hc]
  constructor
  · intro h
    have : (Finset.Iic k) ⊆ Finset.univ.filter fun k => v ≤ x (places x k) := by
      intro j hj
      rw [Finset.mem_Iic] at hj
      rw [Finset.mem_filter]
      refine ⟨Finset.mem_univ _, ?_⟩
      rcases hj.lt_or_eq with h' | rfl
      · exact h.trans (places_antitone x _ _ h')
      · exact h
    have := Finset.card_le_card this
    rw [Fin.card_Iic] at this
    omega
  · intro h
    by_contra hn
    have : (Finset.univ.filter fun k => v ≤ x (places x k)) ⊆ Finset.Iio k := by
      intro j hj
      rw [Finset.mem_filter] at hj
      rw [Finset.mem_Iio]
      by_contra hk
      rcases (not_lt.mp hk).lt_or_eq with h' | rfl
      · exact hn (hj.2.trans (places_antitone x _ _ h'))
      · exact hn hj.2
    have := Finset.card_le_card this
    rw [Fin.card_Iio] at this
    omega

/-- Two rows with as many entries at or above every level from `t` on agree at every place the level `t` reaches. -/
theorem places_eq {n n' : Nat} (x : Fin n → α) (y : Fin n' → α) (t : α) (h : ∀ v, t ≤ v → cnt x v = cnt y v)
    (k : Fin n) (k' : Fin n') (hk : k.val = k'.val) (ht : k.val < cnt x t) : x (places x k) = y (places y k') ∧ t ≤ x (places x k) := by
  have hx : t ≤ x (places x k) := (le_places_iff x t k).mpr ht
  have hy : t ≤ y (places y k') := (le_places_iff y t k').mpr (by rw [← h t le_rfl, ← hk]; exact ht)
  refine ⟨le_antisymm ?_ ?_, hx⟩
  · rw [le_places_iff, ← h _ hx, ← hk, ← le_places_iff]
  · rw [le_places_iff, h _ hy, hk, ← le_places_iff]

/-! ## Taking the greatest entry out, again and again -/

section Peel

variable [OrderBot α] {ι : Type} [Fintype ι] [DecidableEq ι]

/-- A row with the entry at `p` taken out. -/
def out (y : ι → α) (p : ι) : ι → α := fun a => if a = p then ⊥ else y a

/-- Above the bottom, taking out a greatest entry lowers the count by one, or the count was zero. -/
theorem cnt_out (y : ι → α) (p : ι) (hp : ∀ a, y a ≤ y p) (v : α) (hv : ⊥ < v) :
    cnt y v = if v ≤ y p then cnt (out y p) v + 1 else 0 := by
  classical
  unfold cnt
  split
  · rename_i h
    have : (Finset.univ.filter fun a => v ≤ y a) = insert p (Finset.univ.filter fun a => v ≤ out y p a) := by
      ext a
      rw [Finset.mem_insert, Finset.mem_filter, Finset.mem_filter]
      simp only [Finset.mem_univ, true_and, out]
      by_cases e : a = p
      · subst e; simp [h]
      · simp [e]
    rw [this, Finset.card_insert_of_notMem]
    intro h'
    rw [Finset.mem_filter] at h'
    simp only [Finset.mem_univ, true_and, out, if_true, le_bot_iff] at h'
    exact hv.ne' h'
  · rename_i h
    rw [Finset.card_eq_zero, Finset.filter_eq_empty_iff]
    intro a _ ha
    exact h (ha.trans (hp a))

/-- Of `R` rounds of taking the greatest entry out, the number that gave at least `v` is the number of entries at least `v`, up to `R`. -/
theorem cnt_rounds (R : Nat) (y : Nat → ι → α) (p : Nat → ι) (hp : ∀ e a, y e a ≤ y e (p e)) (hy : ∀ e, y (e + 1) = out (y e) (p e))
    (v : α) (hv : ⊥ < v) : cnt (fun e : Fin R => y e (p e)) v = min R (cnt (y 0) v) := by
  classical
  induction R generalizing y p with
  | zero => simp [cnt]
  | succ R ih =>
    have h := ih (fun e => y (e + 1)) (fun e => p (e + 1)) (fun e a => hp _ a) (fun e => hy _)
    have hs : cnt (fun e : Fin (R + 1) => y e (p e)) v
        = (if v ≤ y 0 (p 0) then 1 else 0) + cnt (fun e : Fin R => y (e + 1) (p (e + 1))) v := by
      unfold cnt
      rw [Fin.card_filter_univ_succ]
      split
      · rename_i h'; rw [if_pos (by simpa using h'), Nat.add_comm]; rfl
      · rename_i h'; rw [if_neg (by simpa using h'), Nat.zero_add]; rfl
    rw [hs, h, cnt_out (y 0) (p 0) (hp 0) v hv, ← hy 0]
    split
    · omega
    · have : cnt (y 1) v = 0 := by
        rename_i hn
        unfold cnt
        rw [Finset.card_eq_zero, Finset.filter_eq_empty_iff]
        intro a _ ha
        rw [show (1 : Nat) = 0 + 1 from rfl, hy 0] at ha
        unfold out at ha
        split at ha
        · exact absurd (lt_of_lt_of_le hv ha) (lt_irrefl _)
        · exact hn (ha.trans (hp 0 a))
      simp [this]

/-- What a later round finds above the bottom was in the row at the start, at the same place. -/
theorem rounds_at (y : Nat → ι → α) (p : Nat → ι) (hy : ∀ e, y (e + 1) = out (y e) (p e)) (e : Nat) (a : ι) (h : y e a ≠ ⊥) :
    y e a = y 0 a := by
  induction e with
  | zero => rfl
  | succ e ih =>
    rw [hy e] at h ⊢
    unfold out at h ⊢
    split at h
    · exact absurd rfl h
    · rename_i hn; rw [if_neg hn]; exact ih h

end Peel

/-! ## The running threshold -/

/-- If every one of `N` rounds keeps a level at least `N + 1` entries reach and otherwise goes to the greatest entry below, the last level is
reached by at least `N + 1`. -/
theorem cnt_threshold [OrderBot α] {ι : Type} [Fintype ι] (G : ι → α) (N : Nat) (hN : N + 1 ≤ Fintype.card ι) (p : Nat → α) (h0 : ∃ a, G a = p 0)
    (hs : ∀ e, (N + 1 ≤ cnt G (p e) ∧ p (e + 1) = p e)
      ∨ (cnt G (p e) < N + 1 ∧ ((∃ a, G a < p e ∧ G a = p (e + 1)) ∨ (∀ a, p e ≤ G a)))) :
    N + 1 ≤ cnt G (p N) := by
  classical
  have key : ∀ e, min (N + 1) (e + 1) ≤ cnt G (p e) := by
    intro e
    induction e with
    | zero =>
      obtain ⟨a, ha⟩ := h0
      have : 0 < cnt G (p 0) := Finset.card_pos.mpr ⟨a, by simp [ha]⟩
      omega
    | succ e ih =>
      rcases hs e with ⟨h1, h2⟩ | ⟨h1, h2 | h2⟩
      · rw [h2]; omega
      · obtain ⟨a, ha, hb⟩ := h2
        have : cnt G (p e) < cnt G (p (e + 1)) := by
          refine Finset.card_lt_card ⟨?_, ?_⟩
          · intro b hb'
            simp only [Finset.mem_filter, Finset.mem_univ, true_and] at hb' ⊢
            exact (hb ▸ ha).le.trans hb'
          · intro hsub
            have := hsub (Finset.mem_filter.mpr ⟨Finset.mem_univ a, hb.ge⟩)
            simp only [Finset.mem_filter, Finset.mem_univ, true_and] at this
            exact absurd ha (not_lt.mpr this)
        omega
      · have : cnt G (p e) = Fintype.card ι := by
          unfold cnt
          rw [Finset.filter_true_of_mem (fun a _ => h2 a), Finset.card_univ]
        omega
  have := key N
  omega

/-- A level at the bottom is reached by every entry. -/
theorem cnt_bot [OrderBot α] {ι : Type} [Fintype ι] (G : ι → α) : cnt G ⊥ = Fintype.card ι := by
  classical
  unfold cnt
  rw [Finset.filter_true_of_mem (fun _ _ => bot_le), Finset.card_univ]

/-- Counting over pairs: the sum over the first of the counts over the second. -/
theorem cnt_prod {ι κ : Type} [Fintype ι] [Fintype κ] (x : ι × κ → α) (v : α) : cnt x v = ∑ i, cnt (fun k => x (i, k)) v := by
  classical
  unfold cnt
  simp only [Finset.card_filter]
  rw [Fintype.sum_prod_type]

/-- A count does not depend on the names of the places. -/
theorem cnt_equiv {ι κ : Type} [Fintype ι] [Fintype κ] (e : ι ≃ κ) (x : κ → α) (v : α) : cnt (fun i => x (e i)) v = cnt x v := by
  classical
  unfold cnt
  refine Finset.card_bij (fun i _ => e i) ?_ ?_ ?_
  · intro a ha; simpa using ha
  · intro a _ b _ h; exact e.injective h
  · intro b hb
    exact ⟨e.symm b, by simpa using hb, by simp⟩

end Cert.Rows

end
-- ==== Proof.Folds.lean ====
/- Folds over a finite index set, as the kernel's reductions are read at one place: the largest element, the first place that
   attains it, the sum that picks one entry, and counts of places. -/
module

public import Idealize.ShloMosaic.PureOps.Reduce
public import Idealize.ShloMosaic.PureOps.Ideal
public import Idealize.ShloMosaic.Lib.WordCmp
public import proofs.«01_k».proof.Proof.Rank

@[expose] public section

namespace Cert.Rows

open Idealize.ShloMosaic Idealize.ShloMosaic.WordCmp

/-- A running maximum over all places, started at the bottom, bounds each of them. -/
theorem le_foldMax {ι : Type} [Fintype ι] (x : ι → EReal) (a : ι) : x a ≤ (Finset.univ : Finset ι).fold max ⊥ x :=
  Finset.le_fold_max (x a) |>.2 (Or.inr ⟨a, Finset.mem_univ a, le_rfl⟩)

/-- It is attained, if there is a place. -/
theorem foldMax_attained {ι : Type} [Fintype ι] [Nonempty ι] (x : ι → EReal) : ∃ a, x a = (Finset.univ : Finset ι).fold max ⊥ x := by
  obtain ⟨a, -, ha⟩ := Finset.exists_max_image (Finset.univ : Finset ι) x Finset.univ_nonempty
  exact ⟨a, le_antisymm (le_foldMax x a) (Finset.fold_max_le _ |>.2 ⟨bot_le, fun b hb => ha b hb⟩)⟩

/-- A running signed minimum is at most each entry and is its start or one of the entries. -/
theorem foldMin_spec {ι : Type} [DecidableEq ι] (b : BitVec 32) (q : ι → BitVec 32) (s : Finset ι) :
    (∀ a ∈ s, (s.fold IntOp.minsi b q).toInt ≤ (q a).toInt) ∧ (s.fold IntOp.minsi b q).toInt ≤ b.toInt
      ∧ (s.fold IntOp.minsi b q = b ∨ ∃ a ∈ s, s.fold IntOp.minsi b q = q a) := by
  induction s using Finset.induction_on with
  | empty => simp
  | insert a s ha ih =>
    rw [Finset.fold_insert ha]
    obtain ⟨h1, h2, h3⟩ := ih
    generalize s.fold IntOp.minsi b q = m at h1 h2 h3 ⊢
    unfold IntOp.minsi
    by_cases hlt : (q a).slt m = true
    · rw [if_pos hlt]
      have hlt' : (q a).toInt < m.toInt := by simpa [BitVec.slt] using hlt
      refine ⟨fun c hc => ?_, by omega, Or.inr ⟨a, Finset.mem_insert_self a s, rfl⟩⟩
      rcases Finset.mem_insert.1 hc with rfl | hc
      · exact le_rfl
      · have := h1 c hc; omega
    · rw [if_neg hlt]
      have hlt' : ¬ (q a).toInt < m.toInt := by simpa [BitVec.slt] using hlt
      refine ⟨fun c hc => ?_, h2, ?_⟩
      · rcases Finset.mem_insert.1 hc with rfl | hc
        · omega
        · exact h1 c hc
      · rcases h3 with h3 | ⟨c, hc, h3⟩
        · exact Or.inl h3
        · exact Or.inr ⟨c, Finset.mem_insert_of_mem hc, h3⟩

/-- The least place whose entry equals `m`, read off a running minimum of the places with `n` standing for "not here". -/
theorem foldMin_place {n : Nat} (hn : n < 2 ^ 31 - 1) (h : Fin n → Prop) [DecidablePred h] (hex : ∃ a, h a)
    (q : Fin n → BitVec 32) (hq : ∀ a, q a = if h a then BitVec.ofNat 32 a.val else BitVec.ofNat 32 n) :
    ∃ p : Fin n, (Finset.univ : Finset (Fin n)).fold IntOp.minsi 2147483647#32 q = BitVec.ofNat 32 p.val ∧ h p := by
  obtain ⟨h1, -, h3⟩ := foldMin_spec 2147483647#32 q Finset.univ
  obtain ⟨a, ha⟩ := hex
  have hfa := h1 a (Finset.mem_univ a)
  rw [hq a, if_pos ha, toInt_ofNat_of_lt (show a.val < 2 ^ (32 - 1) by have := a.isLt; omega)] at hfa
  rcases h3 with h3 | ⟨p, -, h3⟩
  · rw [h3] at hfa
    have : (2147483647#32 : BitVec 32).toInt = 2147483647 := by decide
    have := a.isLt; omega
  · by_cases hp : h p
    · exact ⟨p, by rw [h3, hq p, if_pos hp], hp⟩
    · rw [h3, hq p, if_neg hp, toInt_ofNat_of_lt (show n < 2 ^ (32 - 1) by omega)] at hfa
      have := a.isLt; omega

theorem addi_def (x y : BitVec 32) : IntOp.addi x y = x + y := rfl

/-- A sum of words all zero but at one place is the entry there. -/
theorem foldAdd_pick {ι : Type} [DecidableEq ι] (q : ι → BitVec 32) (p : ι) (hq : ∀ a, a ≠ p → q a = 0#32) (s : Finset ι) :
    s.fold IntOp.addi 0#32 q = if p ∈ s then q p else 0#32 := by
  induction s using Finset.induction_on with
  | empty => simp
  | insert a s ha ih =>
    rw [Finset.fold_insert ha, ih, addi_def]
    by_cases h : a = p
    · subst h; rw [if_neg ha, if_pos (Finset.mem_insert_self _ _)]; simp
    · rw [hq a h]
      by_cases hp : p ∈ s
      · rw [if_pos hp, if_pos (Finset.mem_insert_of_mem hp)]; simp
      · rw [if_neg hp, if_neg (fun hc => (Finset.mem_insert.1 hc).elim (fun e => h e.symm) hp)]; simp

/-- A sum of words is the sum of their values while that stays inside the word. -/
theorem foldAdd_toNat {ι : Type} [DecidableEq ι] (q : ι → BitVec 32) (s : Finset ι) (hs : ∑ a ∈ s, (q a).toNat < 2 ^ 32) :
    (s.fold IntOp.addi 0#32 q).toNat = ∑ a ∈ s, (q a).toNat := by
  induction s using Finset.induction_on with
  | empty => simp
  | insert a s ha ih =>
    rw [Finset.sum_insert ha] at hs
    rw [Finset.fold_insert ha, Finset.sum_insert ha, addi_def]
    rw [BitVec.toNat_add, ih (by omega), Nat.mod_eq_of_lt hs]

/-- The number of places a bit is set at, as the kernel counts it. -/
theorem foldAdd_count {ι : Type} [Fintype ι] [DecidableEq ι] (q : ι → BitVec 32) (h : ι → Prop) [DecidablePred h]
    (hq : ∀ a, q a = if h a then 1#32 else 0#32) (hc : Fintype.card ι < 2 ^ 32) :
    ((Finset.univ : Finset ι).fold IntOp.addi 0#32 q).toNat = (Finset.univ.filter h).card := by
  have e : ∑ a : ι, (q a).toNat = (Finset.univ.filter h).card := by
    rw [Finset.card_filter]
    refine Finset.sum_congr rfl fun a _ => ?_
    rw [hq a]; split <;> rfl
  rw [foldAdd_toNat q Finset.univ, e]
  rw [e]
  exact lt_of_le_of_lt (Finset.card_le_univ _) hc

/-- A running signed maximum bounds each entry, and is its start or one of them. -/
theorem foldMaxsi_spec {ι : Type} [DecidableEq ι] (b : BitVec 32) (q : ι → BitVec 32) (s : Finset ι) :
    (∀ a ∈ s, (q a).toInt ≤ (s.fold IntOp.maxsi b q).toInt) ∧ (s.fold IntOp.maxsi b q = b ∨ ∃ a ∈ s, s.fold IntOp.maxsi b q = q a) := by
  induction s using Finset.induction_on with
  | empty => simp
  | insert a s ha ih =>
    rw [Finset.fold_insert ha]
    obtain ⟨h1, h3⟩ := ih
    generalize s.fold IntOp.maxsi b q = m at h1 h3 ⊢
    unfold IntOp.maxsi
    by_cases hlt : m.slt (q a) = true
    · rw [if_pos hlt]
      have hlt' : m.toInt < (q a).toInt := by simpa [BitVec.slt] using hlt
      refine ⟨fun c hc => ?_, Or.inr ⟨a, Finset.mem_insert_self a s, rfl⟩⟩
      rcases Finset.mem_insert.1 hc with rfl | hc
      · exact le_rfl
      · have := h1 c hc; omega
    · rw [if_neg hlt]
      have hlt' : ¬ m.toInt < (q a).toInt := by simpa [BitVec.slt] using hlt
      refine ⟨fun c hc => ?_, ?_⟩
      · rcases Finset.mem_insert.1 hc with rfl | hc
        · omega
        · exact h1 c hc
      · rcases h3 with h3 | ⟨c, hc, h3⟩
        · exact Or.inl h3
        · exact Or.inr ⟨c, Finset.mem_insert_of_mem hc, h3⟩

end Cert.Rows
-- ==== Proof.Read2.lean ====
/- One round over a lane and one over a stacked row, read at one place. -/
module

public import proofs.«01_k».proof.Proof.Steps2
public import proofs.«01_k».proof.Proof.Folds
public import Idealize.ShloMosaic.Lib.Pointwise

@[expose] public section

noncomputable section

namespace Cert.KernelIdeal.Hand

open Cert.KernelIdeal.Gen
open Idealize.ShloMosaic Idealize.ShloMosaic.TcCoe
open Cert.Rows

theorem neg_inf : Ideal.ofBits .f32 0xFF800000#32 = (⊥ : EReal) := by
  simp [Ideal.ofBits, Ideal.ieee]

theorem sel_ite {α : Type} (c : BitVec 1) (a b : α) : Scalar.select c a b = if c = 1#1 then a else b := rfl

theorem cmpi_eq_ite (x y : BitVec 32) : IntOp.cmpi .eq x y = if x = y then 1#1 else 0#1 := by
  rw [Idealize.ShloMosaic.WordCmp.cmpi_eq_eq]; by_cases h : x = y <;> simp [h]

theorem ite_bit {p : Prop} [Decidable p] : ((if p then 1#1 else 0#1 : BitVec 1) = 1#1) = p := by
  by_cases h : p <;> simp [h]

theorem mxG_apply (w : FVec Ideal S512x16x128 .f32) (r : Fin 512) (l : Fin 128) :
    mxG w (ix2 r l) = (Finset.univ : Finset (Fin 16)).fold max ⊥ fun a => w (ix3 r a l) := by
  pointwise [mxG, neg_inf]

theorem atG_apply (w : FVec Ideal S512x16x128 .f32) (r : Fin 512) (l : Fin 128) :
    atG w (ix2 r l) = (Finset.univ : Finset (Fin 16)).fold IntOp.minsi 2147483647#32 fun a =>
      if w (ix3 r a l) = mxG w (ix2 r l) then BitVec.ofNat 32 a.val else BitVec.ofNat 32 16 := by
  pointwise [atG]

theorem outG_apply (w : FVec Ideal S512x16x128 .f32) (r : Fin 512) (a : Fin 16) (l : Fin 128) :
    outG w (ix3 r a l) = if BitVec.ofNat 32 a.val = atG w (ix2 r l) then ⊥ else w (ix3 r a l) := by
  pointwise [outG, neg_inf]
  rw [cmpi_eq_ite, sel_ite]; simp only [ite_bit]

theorem keepV_apply (t : FVec Ideal S512x1 .f32) (w : FVec Ideal S512x16x128 .f32) (r : Fin 512) (l : Fin 128) :
    keepV t w (ix2 r l) = if t (ix2 r 0) ≤ mxG w (ix2 r l) then mxG w (ix2 r l) else ⊥ := by
  pointwise [keepV, keepG, neg_inf]

theorem keepI_apply (b : BitVec 32) (t : FVec Ideal S512x1 .f32) (w : FVec Ideal S512x16x128 .f32) (r : Fin 512) (l : Fin 128) :
    keepI b t w (ix2 r l) = if t (ix2 r 0) ≤ mxG w (ix2 r l) then b * 2048#32 + atG w (ix2 r l) * 128#32 + BitVec.ofNat 32 l.val else 0#32 := by
  pointwise [keepI, keepG]
  rfl

theorem mxS_apply (V : FVec Ideal S512x512 .f32) (r : Fin 512) :
    mxS V (ix2 r 0) = (Finset.univ : Finset (Fin 512)).fold max ⊥ fun a => V (ix2 r a) := by
  pointwise [mxS, neg_inf]

theorem hitS_apply (V : FVec Ideal S512x512 .f32) (r : Fin 512) (s : Fin 512) :
    hitS V (ix2 r s) = if BitVec.ofNat 32 s.val = (Finset.univ : Finset (Fin 512)).fold IntOp.minsi 2147483647#32 (fun a =>
      if V (ix2 r a) = mxS V (ix2 r 0) then BitVec.ofNat 32 a.val else BitVec.ofNat 32 512) then 1#1 else 0#1 := by
  pointwise [hitS, selS]
  rw [cmpi_eq_ite]

theorem outS_apply (V : FVec Ideal S512x512 .f32) (r : Fin 512) (s : Fin 512) :
    outS V (ix2 r s) = if hitS V (ix2 r s) = 1#1 then ⊥ else V (ix2 r s) := by
  pointwise [outS, neg_inf]
  rw [sel_ite]

theorem idS_apply (I : IVec S512x512 32) (V : FVec Ideal S512x512 .f32) (r : Fin 512) :
    idS I V (ix2 r 0) = (Finset.univ : Finset (Fin 512)).fold IntOp.addi 0#32 fun a => if hitS V (ix2 r a) = 1#1 then I (ix2 r a) else 0#32 := by
  pointwise [idS]
  rfl

/-! ## A round, as a place struck out -/

/-- A round over a lane strikes out a largest entry, and names it. -/
theorem lane_round (w : FVec Ideal S512x16x128 .f32) (r : Fin 512) (l : Fin 128) :
    ∃ p : Fin 16, atG w (ix2 r l) = BitVec.ofNat 32 p.val ∧ mxG w (ix2 r l) = w (ix3 r p l) ∧ (∀ a, w (ix3 r a l) ≤ w (ix3 r p l))
      ∧ (fun a => outG w (ix3 r a l)) = out (fun a => w (ix3 r a l)) p := by
  obtain ⟨a0, h0⟩ := foldMax_attained (fun a : Fin 16 => w (ix3 r a l))
  obtain ⟨p, hp, hq⟩ := foldMin_place (n := 16) (by norm_num) (fun a => w (ix3 r a l) = mxG w (ix2 r l))
    ⟨a0, by rw [mxG_apply]; exact h0⟩ _ (fun a => rfl)
  have hp' : atG w (ix2 r l) = BitVec.ofNat 32 p.val := (atG_apply w r l).trans hp
  refine ⟨p, hp', hq.symm, fun a => ?_, ?_⟩
  · rw [hq, mxG_apply]; exact le_foldMax (fun a : Fin 16 => w (ix3 r a l)) a
  · funext a
    rw [outG_apply, hp']
    unfold out
    have e : BitVec.ofNat 32 a.val = BitVec.ofNat 32 p.val ↔ a = p := by
      rw [WordCmp.ofNat_eq_ofNat_iff (by have := a.isLt; omega) (by have := p.isLt; omega), Fin.ext_iff]
    simp only [e]

/-- A round over a stacked row does so too, and picks the candidate standing at that place. -/
theorem row_round (V : FVec Ideal S512x512 .f32) (r : Fin 512) :
    ∃ p : Fin 512, mxS V (ix2 r 0) = V (ix2 r p) ∧ (∀ a, V (ix2 r a) ≤ V (ix2 r p))
      ∧ (fun a => outS V (ix2 r a)) = out (fun a => V (ix2 r a)) p ∧ ∀ I : IVec S512x512 32, idS I V (ix2 r 0) = I (ix2 r p) := by
  obtain ⟨a0, h0⟩ := foldMax_attained (fun a : Fin 512 => V (ix2 r a))
  obtain ⟨p, hp, hq⟩ := foldMin_place (n := 512) (by norm_num) (fun a => V (ix2 r a) = mxS V (ix2 r 0))
    ⟨a0, by rw [mxS_apply]; exact h0⟩ _ (fun a => rfl)
  have hh : ∀ a : Fin 512, (hitS V (ix2 r a) = 1#1) = (a = p) := fun a => by
    rw [hitS_apply, hp, ite_bit]
    exact propext (by rw [WordCmp.ofNat_eq_ofNat_iff (by have := a.isLt; omega) (by have := p.isLt; omega), Fin.ext_iff])
  refine ⟨p, hq.symm, fun a => ?_, ?_, fun I => ?_⟩
  · rw [hq, mxS_apply]; exact le_foldMax (fun a : Fin 512 => V (ix2 r a)) a
  · funext a
    rw [outS_apply]
    unfold out
    simp only [hh]
  · rw [idS_apply, foldAdd_pick _ p (fun a ha => by rw [if_neg]; rw [hh]; exact ha), if_pos (Finset.mem_univ p), if_pos]
    rw [hh]

/-! ## The stack and the sixteen results, by place -/

/-- The lanes after a number of rounds. -/
def roundG {F : FTy → Type} [FloatOps F] (w : FVec F S512x16x128 .f32) : Nat → FVec F S512x16x128 .f32
  | 0 => w
  | e + 1 => outG (roundG w e)

theorem stackV_apply (t : FVec Ideal S512x1 .f32) (w : FVec Ideal S512x16x128 .f32) (r : Fin 512) (s : Fin 512) (e : Fin 4) (l : Fin 128)
    (he : s.val / 128 = e.val) (hl : l.val = s.val % 128) : stackV t w (ix2 r s) = keepV t (roundG w e.val) (ix2 r l) := by
  have h : stackV t w = concatenate S512x512 1 (List.ofFn fun n : Fin 4 => (⟨S512x128, keepV t (roundG w n.val)⟩ : (s : Shape) × (s.Idx → EReal)))
      concatenates_S512x128_S512x128_S512x128_S512x128_S512x512_d1 := rfl
  rw [h]
  exact concatenate_ofFn_apply (t := S512x512) (s₁ := S512x128) 1 (fun n : Fin 4 => keepV t (roundG w n.val)) _ rfl 128 rfl (ix2 r s) e he (ix2 r l) hl
    (fun b hb => by match b with | ⟨0, _⟩ => rfl | ⟨1, _⟩ => exact absurd rfl hb)

theorem stackI_apply (b : BitVec 32) (t : FVec Ideal S512x1 .f32) (w : FVec Ideal S512x16x128 .f32) (r : Fin 512) (s : Fin 512) (e : Fin 4) (l : Fin 128)
    (he : s.val / 128 = e.val) (hl : l.val = s.val % 128) : stackI b t w (ix2 r s) = keepI b t (roundG w e.val) (ix2 r l) := by
  have h : stackI b t w = concatenate S512x512 1 (List.ofFn fun n : Fin 4 => (⟨S512x128, keepI b t (roundG w n.val)⟩ : (s : Shape) × (s.Idx → BitVec 32)))
      concatenates_S512x128_S512x128_S512x128_S512x128_S512x512_d1 := rfl
  rw [h]
  exact concatenate_ofFn_apply (t := S512x512) (s₁ := S512x128) 1 (fun n : Fin 4 => keepI b t (roundG w n.val)) _ rfl 128 rfl (ix2 r s) e he (ix2 r l) hl
    (fun b hb => by match b with | ⟨0, _⟩ => rfl | ⟨1, _⟩ => exact absurd rfl hb)

theorem blockV_apply (V : FVec Ideal S512x512 .f32) (r : Fin 512) (e : Fin 16) : blockV V (ix2 r e) = mxS (roundS V e.val) (ix2 r 0) := by
  have h : blockV V = concatenate S512x16 1 (List.ofFn fun n : Fin 16 => (⟨S512x1, mxS (roundS V n.val)⟩ : (s : Shape) × (s.Idx → EReal)))
      concatenates_S512x1_S512x1_S512x1_S512x1_S512x1_S512x1_S512x1_S512x1_S512x1_S512x1_S512x1_S512x1_S512x1_S512x1_S512x1_S512x1_S512x16_d1 := rfl
  rw [h]
  exact concatenate_ofFn_apply (t := S512x16) (s₁ := S512x1) 1 (fun n : Fin 16 => mxS (roundS V n.val)) _ rfl 1 rfl (ix2 r e) e (Nat.div_one _) (ix2 r 0)
    (Nat.mod_one _).symm (fun b hb => by match b with | ⟨0, _⟩ => rfl | ⟨1, _⟩ => exact absurd rfl hb)

theorem blockI_apply (I : IVec S512x512 32) (V : FVec Ideal S512x512 .f32) (r : Fin 512) (e : Fin 16) :
    blockI I V (ix2 r e) = idS I (roundS V e.val) (ix2 r 0) := by
  have h : blockI I V = concatenate S512x16 1 (List.ofFn fun n : Fin 16 => (⟨S512x1, idS I (roundS V n.val)⟩ : (s : Shape) × (s.Idx → BitVec 32)))
      concatenates_S512x1_S512x1_S512x1_S512x1_S512x1_S512x1_S512x1_S512x1_S512x1_S512x1_S512x1_S512x1_S512x1_S512x1_S512x1_S512x1_S512x16_d1 := rfl
  rw [h]
  exact concatenate_ofFn_apply (t := S512x16) (s₁ := S512x1) 1 (fun n : Fin 16 => idS I (roundS V n.val)) _ rfl 1 rfl (ix2 r e) e (Nat.div_one _) (ix2 r 0)
    (Nat.mod_one _).symm (fun b hb => by match b with | ⟨0, _⟩ => rfl | ⟨1, _⟩ => exact absurd rfl hb)

end Cert.KernelIdeal.Hand

end
-- ==== Proof.Pays.lean ====
/- The bodies' vectors read at one place: the masked scores, the group maxima, the counts, the threshold's rounds. -/
module

public import proofs.«01_k».proof.Proof.Read2
public import proofs.«01_k».proof.Proof.Gen.KernelIdeal.Skeleton

@[expose] public section

namespace Cert.KernelIdeal.Hand

open Cert.KernelIdeal.Gen Idealize.ShloMosaic Idealize.ShloMosaic.TcCoe Cert.Rows

/-- The place of sub-row `a`, lane `l` in its block of 2048. -/
def inBlk (a : Fin 16) (l : Fin 128) : Fin 2048 := ⟨a.val * 128 + l.val, by have := a.isLt; have := l.isLt; omega⟩

/-- The score of row `r` at sub-row `a`, lane `l` of block `j`, the bottom past the last candidate. -/
noncomputable def blkScore (j : Nat) (x0 : FVec Ideal S512x128 .f32) (x1 : FVec Ideal S2048x128 .f32) (r : Fin 512) (a : Fin 16) (l : Fin 128) : EReal :=
  if j * 2048 + a.val * 128 + l.val < 100000 then ∑ k : Fin 128, x0 (ix2 r k) * x1 (ix2 (inBlk a l) k) else ⊥

theorem count_bit (p : Prop) [Decidable p] : BitVec.setWidth 32 (BitVec.ofBool (decide p)) = if p then 1#32 else 0#32 := by
  by_cases h : p <;> simp [h]

/-- The id a block computes for a place is the place's number. -/
theorem id_word (j a l : Nat) : BitVec.ofNat 32 j * 2048#32 + BitVec.ofNat 32 a * 128#32 + BitVec.ofNat 32 l = BitVec.ofNat 32 (j * 2048 + a * 128 + l) := by
  rw [BitVec.ofNat_add, BitVec.ofNat_add, BitVec.ofNat_mul, BitVec.ofNat_mul]

/-- Keeping a value where the id is below the candidates' number. -/
theorem masked_ite (j : Nat) (hj : j < 49) (a : Fin 16) (l : Fin 128) (x y : EReal) :
    Scalar.select (IntOp.cmpi .slt (IntOp.addi (IntOp.addi (Scalar.muli (BitVec.ofNat 32 j) 2048#32) (IntOp.muli (BitVec.ofNat 32 a.val) 128#32))
      (BitVec.ofNat 32 l.val)) 100000#32) x y = if j * 2048 + a.val * 128 + l.val < 100000 then x else y := by
  have h : IntOp.addi (IntOp.addi (Scalar.muli (BitVec.ofNat 32 j) 2048#32) (IntOp.muli (BitVec.ofNat 32 a.val) 128#32)) (BitVec.ofNat 32 l.val)
      = BitVec.ofNat 32 (j * 2048 + a.val * 128 + l.val) := id_word j a.val l.val
  have := a.isLt
  have := l.isLt
  rw [h, sel_ite, WordCmp.cmpi_slt_ofNat (by omega) (by omega)]
  by_cases hc : j * 2048 + a.val * 128 + l.val < 100000 <;> simp [hc]

theorem pay2_apply (i : grid2.Coords) (x0 : FVec Ideal S512x128 .f32) (x1 : FVec Ideal S2048x128 .f32) (r : Fin 512) (a : Fin 16) (l : Fin 128) :
    k2_pay2 (F := Ideal) i x0 x1 (ix3 r a l) = blkScore (i 1).val x0 x1 r a l := by
  unfold blkScore
  pointwise [k2_pay2, neg_inf]
  exact masked_ite _ (i 1).isLt a l _ _

theorem pay1_apply (x2 : FVec Ideal S512x128 .f32) (r : Fin 512) : k2_pay1 (F := Ideal) x2 (ix2 r 0) = x2 (ix2 r 0) := by
  pointwise [k2_pay1]

theorem pay3_apply (i : grid2.Coords) (x2 x0 : FVec Ideal S512x128 .f32) (x1 : FVec Ideal S2048x128 .f32) (r : Fin 512) (l : Fin 128) :
    k2_pay3 (F := Ideal) i x2 x0 x1 (ix2 r l) = (Finset.univ : Finset (Fin 16)).fold IntOp.addi 0#32 fun a =>
      if k2_pay1 (F := Ideal) x2 (ix2 r 0) ≤ k2_pay2 (F := Ideal) i x0 x1 (ix3 r a l) then 1#32 else 0#32 := by
  pointwise [k2_pay3]
  exact congrArg (fun f => Finset.fold IntOp.addi 0#32 f Finset.univ) (funext fun a => count_bit _)

theorem pay4_apply (i : grid2.Coords) (x2 x0 : FVec Ideal S512x128 .f32) (x1 : FVec Ideal S2048x128 .f32) (r : Fin 512) :
    k2_pay4 (F := Ideal) i x2 x0 x1 (ix2 r 0) = (Finset.univ : Finset (Fin 128)).fold IntOp.addi 0#32 fun l => k2_pay3 (F := Ideal) i x2 x0 x1 (ix2 r l) := by
  pointwise [k2_pay4]

theorem pay5_apply (i : grid2.Coords) (x2 x0 : FVec Ideal S512x128 .f32) (x1 : FVec Ideal S2048x128 .f32) (r : Fin 512) :
    k2_pay5 (F := Ideal) i x2 x0 x1 (ix2 r 0) = (Finset.univ : Finset (Fin 128)).fold IntOp.maxsi 2147483648#32 fun l => k2_pay3 (F := Ideal) i x2 x0 x1 (ix2 r l) := by
  pointwise [k2_pay5]

theorem pay0_apply (i : grid0.Coords) (x0 : FVec Ideal S512x128 .f32) (x1 : FVec Ideal S2048x128 .f32) (r : Fin 512) (l : Fin 128) :
    k0_pay1 (F := Ideal) i x0 x1 (ix2 r l) = (Finset.univ : Finset (Fin 16)).fold max ⊥ fun a => blkScore (i 1).val x0 x1 r a l := by
  unfold blkScore
  pointwise [k0_pay1, neg_inf]
  exact congrArg (fun f => Finset.fold max ⊥ f Finset.univ) (funext fun a => masked_ite _ (i 1).isLt a l _ _)

theorem top_apply (v0 : FVec Ideal S512x6272 .f32) (r : Fin 512) :
    k1_pay2 (F := Ideal) v0 (ix2 r 0) = (Finset.univ : Finset (Fin 6272)).fold max ⊥ fun a => v0 (ix2 r a) := by
  pointwise [k1_pay2, k1_pay1, neg_inf]

theorem round_apply (v0 : FVec Ideal S512x6272 .f32) (p : FVec Ideal S512x1 .f32) (r : Fin 512) :
    k1_pay3 (F := Ideal) v0 p (ix2 r 0) = if IntOp.cmpi .sge ((Finset.univ : Finset (Fin 6272)).fold IntOp.addi 0#32 fun a => if p (ix2 r 0) ≤ v0 (ix2 r a) then 1#32 else 0#32) 100#32 = 1#1
      then p (ix2 r 0) else (Finset.univ : Finset (Fin 6272)).fold max ⊥ fun a => if v0 (ix2 r a) < p (ix2 r 0) then v0 (ix2 r a) else ⊥ := by
  pointwise [k1_pay3, k1_pay1, neg_inf]
  rw [sel_ite]
  exact if_congr (Iff.of_eq (congrArg (fun z => IntOp.cmpi .sge z 100#32 = 1#1) (congrArg (fun f => Finset.fold IntOp.addi 0#32 f Finset.univ)
    (funext fun a => count_bit _)))) rfl rfl

theorem pay14_apply (p : FVec Ideal S512x1 .f32) (r : Fin 512) (l : Fin 128) : k1_pay4 (F := Ideal) p (ix2 r l) = p (ix2 r 0) := by
  pointwise [k1_pay4]

theorem pay31_apply (x0 : FVec Ideal S512x128 .f32) (x1 : FVec Ideal S2048x128 .f32) (r : Fin 512) (l : Fin 2048) :
    k3_pay1 (F := Ideal) x0 x1 (ix2 r l) = ∑ k : Fin 128, x0 (ix2 r k) * x1 (ix2 l k) := by
  pointwise [k3_pay1]

end Cert.KernelIdeal.Hand
-- ==== Proof.Pick.lean ====
/- One block's picks, as counting: four rounds over each lane of sixteen, sixteen rounds over the kept candidates, lose nothing at or above the
   threshold when no lane holds more than four and the block no more than sixteen such entries. -/
module

public import proofs.«01_k».proof.Proof.Rank
public import Mathlib.Algebra.Order.BigOperators.Group.Finset

@[expose] public section

namespace Cert.Rows

variable {α : Type} [LinearOrder α] [OrderBot α]

/-- The candidates kept of a lane's round: its greatest entry where that reaches the threshold. -/
def kept (t x : α) : α := if t ≤ x then x else ⊥

theorem le_kept (t x v : α) (ht : ⊥ < t) (hv : t ≤ v) : v ≤ kept t x ↔ v ≤ x := by
  unfold kept
  split
  · exact Iff.rfl
  · rename_i h
    constructor
    · intro h'; exact absurd (le_bot_iff.mp (hv.trans h')) ht.ne'
    · intro h'; exact absurd (hv.trans h') h

theorem cnt_congr {ι : Type} [Fintype ι] (x y : ι → α) (v : α) (h : ∀ i, v ≤ x i ↔ v ≤ y i) : cnt x v = cnt y v := by
  unfold cnt
  exact congrArg Finset.card (Finset.filter_congr fun i _ => h i)

theorem cnt_anti {ι : Type} [Fintype ι] (x : ι → α) (t v : α) (h : t ≤ v) : cnt x v ≤ cnt x t := by
  unfold cnt
  exact Finset.card_le_card fun i hi => by
    rw [Finset.mem_filter] at hi ⊢
    exact ⟨hi.1, h.trans hi.2⟩

/-- Places of the stacked row: round `s / 128` of lane `s % 128`. -/
def slots : Fin 512 ≃ Fin 128 × Fin 4 := (finProdFinEquiv (m := 4) (n := 128)).symm.trans (Equiv.prodComm _ _)

theorem slots_fst (s : Fin 512) : (slots s).1.val = s.val % 128 := rfl

theorem slots_snd (s : Fin 512) : (slots s).2.val = s.val / 128 := rfl

section Block

variable (t : α) (y : Nat → Fin 128 → Fin 16 → α) (p : Nat → Fin 128 → Fin 16) (V : Nat → Fin 512 → α) (q : Nat → Fin 512)

/-- Sixteen rounds over the stack find, at or above the threshold, as many entries as the block holds. -/
theorem block_count (hp : ∀ e l a, y e l a ≤ y e l (p e l)) (hy : ∀ e l, y (e + 1) l = out (y e l) (p e l))
    (hV0 : ∀ s, V 0 s = kept t (y (slots s).2.val (slots s).1 (p (slots s).2.val (slots s).1)))
    (hq : ∀ e a, V e a ≤ V e (q e)) (hV : ∀ e, V (e + 1) = out (V e) (q e))
    (ht : ⊥ < t) (h4 : ∀ l, cnt (y 0 l) t ≤ 4) (h16 : ∑ l, cnt (y 0 l) t ≤ 16) (v : α) (hv : t ≤ v) :
    cnt (fun e : Fin 16 => V e (q e)) v = ∑ l, cnt (y 0 l) v := by
  have hvb : ⊥ < v := lt_of_lt_of_le ht hv
  have h0 : cnt (V 0) v = ∑ l, cnt (y 0 l) v := by
    have e1 : cnt (V 0) v = cnt (fun s => (fun x : Fin 128 × Fin 4 => y x.2.val x.1 (p x.2.val x.1)) (slots s)) v :=
      cnt_congr _ _ _ fun s => by rw [hV0]; exact le_kept _ _ _ ht hv
    rw [e1, cnt_equiv slots (fun x : Fin 128 × Fin 4 => y x.2.val x.1 (p x.2.val x.1)), cnt_prod]
    refine Finset.sum_congr rfl fun l _ => ?_
    have := cnt_rounds 4 (fun e => y e l) (fun e => p e l) (fun e a => hp e l a) (fun e => hy e l) v hvb
    rw [this]
    exact min_eq_right ((cnt_anti _ t v hv).trans (h4 l))
  rw [cnt_rounds 16 V q hq hV v hvb, h0]
  exact min_eq_right ((Finset.sum_le_sum fun l _ => cnt_anti _ t v hv).trans h16)

/-- A pick above the bottom is an entry of the block, at the place its round and lane name. -/
theorem block_source (hy : ∀ e l, y (e + 1) l = out (y e l) (p e l))
    (hV0 : ∀ s, V 0 s = kept t (y (slots s).2.val (slots s).1 (p (slots s).2.val (slots s).1)))
    (hV : ∀ e, V (e + 1) = out (V e) (q e)) (e : Nat) (h : V e (q e) ≠ ⊥) :
    V e (q e) = y 0 (slots (q e)).1 (p (slots (q e)).2.val (slots (q e)).1) := by
  have h1 := rounds_at V q hV e (q e) h
  rw [h1] at h ⊢
  rw [hV0] at h ⊢
  unfold kept at h ⊢
  split
  · rename_i h2
    rw [if_pos h2] at h
    exact rounds_at (fun e => y e (slots (q _)).1) (fun e => p e (slots (q _)).1) (fun e => hy e _) _ _ h
  · rename_i h2
    rw [if_neg h2] at h
    exact absurd rfl h

end Block

end Cert.Rows
-- ==== Proof.Block2.lean ====
/- What region 2's sixteen picks of a block are, by counting: at or above the threshold they are the block's entries, and each carries the id of
   the entry it is. -/
module

public import proofs.«01_k».proof.Proof.Read2
public import proofs.«01_k».proof.Proof.Pick

@[expose] public section

namespace Cert.KernelIdeal.Hand

open Cert.KernelIdeal.Gen Idealize.ShloMosaic Idealize.ShloMosaic.TcCoe Cert.Rows

/-- The rounds of a block, with the places they strike out. -/
structure Rounds (b : BitVec 32) (t : FVec Ideal S512x1 .f32) (w : FVec Ideal S512x16x128 .f32) (r : Fin 512) (p : Nat → Fin 128 → Fin 16)
    (q : Nat → Fin 512) : Prop where
  hp : ∀ e l a, roundG w e (ix3 r a l) ≤ roundG w e (ix3 r (p e l) l)
  hy : ∀ e l, (fun a => roundG w (e + 1) (ix3 r a l)) = out (fun a => roundG w e (ix3 r a l)) (p e l)
  h0 : ∀ s, stackV t w (ix2 r s) = kept (t (ix2 r 0)) (roundG w (slots s).2.val (ix3 r (p (slots s).2.val (slots s).1) (slots s).1))
  hI : ∀ s, stackV t w (ix2 r s) ≠ ⊥ → stackI b t w (ix2 r s)
    = b * 2048#32 + BitVec.ofNat 32 (p (slots s).2.val (slots s).1).val * 128#32 + BitVec.ofNat 32 (slots s).1.val
  hq : ∀ e a, roundS (stackV t w) e (ix2 r a) ≤ roundS (stackV t w) e (ix2 r (q e))
  hV : ∀ e, (fun a => roundS (stackV t w) (e + 1) (ix2 r a)) = out (fun a => roundS (stackV t w) e (ix2 r a)) (q e)
  hB : ∀ e : Fin 16, blockV (stackV t w) (ix2 r e) = roundS (stackV t w) e.val (ix2 r (q e.val))
  hJ : ∀ e : Fin 16, blockI (stackI b t w) (stackV t w) (ix2 r e) = stackI b t w (ix2 r (q e.val))

theorem rounds_exist (b : BitVec 32) (t : FVec Ideal S512x1 .f32) (w : FVec Ideal S512x16x128 .f32) (r : Fin 512) :
    ∃ p q, Rounds b t w r p q := by
  have hl := fun (e : Nat) (l : Fin 128) => lane_round (roundG w e) r l
  choose p h1 h2 h3 h4 using hl
  have hr := fun e : Nat => row_round (roundS (stackV t w) e) r
  choose q k1 k2 k3 k4 using hr
  have hv : ∀ s : Fin 512, stackV t w (ix2 r s)
      = kept (t (ix2 r 0)) (roundG w (slots s).2.val (ix3 r (p (slots s).2.val (slots s).1) (slots s).1)) := fun s => by
    rw [stackV_apply t w r s (slots s).2 (slots s).1 (slots_snd s).symm (slots_fst s), keepV_apply, h2]
    rfl
  refine ⟨p, q, ⟨h3, h4, hv, fun s hs => ?_, k2, k3, fun e => ?_, fun e => ?_⟩⟩
  · rw [hv] at hs
    rw [stackI_apply b t w r s (slots s).2 (slots s).1 (slots_snd s).symm (slots_fst s), keepI_apply, h2, h1]
    unfold kept at hs
    rw [if_pos]
    by_contra hc
    rw [if_neg hc] at hs
    exact hs rfl
  · rw [blockV_apply, k1]
  · rw [blockI_apply, k4]

/-- At or above the threshold, the picks are as many as the block's entries, when no lane overflows its four and the block its sixteen. -/
theorem blockV_cnt (t : FVec Ideal S512x1 .f32) (w : FVec Ideal S512x16x128 .f32) (r : Fin 512) (ht : ⊥ < t (ix2 r 0))
    (h4 : ∀ l, cnt (fun a => w (ix3 r a l)) (t (ix2 r 0)) ≤ 4) (h16 : ∑ l, cnt (fun a => w (ix3 r a l)) (t (ix2 r 0)) ≤ 16)
    (v : EReal) (hv : t (ix2 r 0) ≤ v) :
    cnt (fun e : Fin 16 => blockV (stackV t w) (ix2 r e)) v = ∑ l, cnt (fun a => w (ix3 r a l)) v := by
  obtain ⟨p, q, R⟩ := rounds_exist 0#32 t w r
  have := block_count (t (ix2 r 0)) (fun e l a => roundG w e (ix3 r a l)) p (fun e s => roundS (stackV t w) e (ix2 r s)) q
    R.hp R.hy R.h0 R.hq R.hV ht h4 h16 v hv
  refine Eq.trans ?_ this
  exact congrArg (fun x => cnt x v) (funext R.hB)

/-- A pick above the bottom is an entry of the block, and its id is that entry's. -/
theorem blockI_source (b : BitVec 32) (t : FVec Ideal S512x1 .f32) (w : FVec Ideal S512x16x128 .f32) (r : Fin 512) (e : Fin 16)
    (h : blockV (stackV t w) (ix2 r e) ≠ ⊥) : ∃ (a : Fin 16) (l : Fin 128), blockV (stackV t w) (ix2 r e) = w (ix3 r a l)
      ∧ blockI (stackI b t w) (stackV t w) (ix2 r e) = b * 2048#32 + BitVec.ofNat 32 a.val * 128#32 + BitVec.ofNat 32 l.val := by
  obtain ⟨p, q, R⟩ := rounds_exist b t w r
  rw [R.hB] at h
  have h' := block_source (t (ix2 r 0)) (fun e l a => roundG w e (ix3 r a l)) p (fun e s => roundS (stackV t w) e (ix2 r s)) q
    R.hy R.h0 R.hV e.val h
  have h0 := rounds_at (fun e s => roundS (stackV t w) e (ix2 r s)) q R.hV e.val (q e.val) h
  refine ⟨_, _, (R.hB e).trans h', ?_⟩
  rw [R.hJ]
  exact R.hI _ (fun hc => h (h0.trans hc))

end Cert.KernelIdeal.Hand
-- ==== Proof.Score.lean ====
/- The scores of all rows against all places, and the arrays the regions fill, as functions of the arrays they read. -/
module

public import proofs.«01_k».proof.Proof.Pays
public import proofs.«01_k».proof.Proof.Block2

@[expose] public section

namespace Cert.KernelIdeal.Hand

open Cert.KernelIdeal.Gen Idealize.ShloMosaic Idealize.ShloMosaic.TcCoe Cert.Rows

/-- The place of sub-row `a`, lane `l` of block `j` among all places. -/
def place (j : Fin 49) (a : Fin 16) (l : Fin 128) : Fin 100352 :=
  ⟨j.val * 2048 + a.val * 128 + l.val, by have := j.isLt; have := a.isLt; have := l.isLt; omega⟩

/-- The dot product of a query and a candidate. -/
noncomputable def dotp (Q : FVec Ideal S4096x128 .f32) (C : FVec Ideal S100352x128 .f32) (R : Fin 4096) (n : Fin 100352) : EReal :=
  ∑ k : Fin 128, Q (ix2 R k) * C (ix2 n k)

/-- The score at a place: the dot product, the bottom past the last candidate. -/
noncomputable def score (Q : FVec Ideal S4096x128 .f32) (C : FVec Ideal S100352x128 .f32) (R : Fin 4096) (n : Fin 100352) : EReal :=
  if n.val < 100000 then dotp Q C R n else ⊥

/-- The greatest score of a group: the sixteen places of one block on one lane. -/
noncomputable def group (Q : FVec Ideal S4096x128 .f32) (C : FVec Ideal S100352x128 .f32) (R : Fin 4096) (j : Fin 49) (l : Fin 128) : EReal :=
  (Finset.univ : Finset (Fin 16)).fold max ⊥ fun a => score Q C R (place j a l)

/-- A column of the group array names its block and lane. -/
def colBlk (c : Fin 6272) : Fin 49 := ⟨c.val / 128, by have := c.isLt; omega⟩
def colLane (c : Fin 6272) : Fin 128 := ⟨c.val % 128, Nat.mod_lt _ (by norm_num)⟩

/-- The row of a grid point's block row. -/
def rowOf (i : Fin 8) (r : Fin 512) : Fin 4096 := ⟨i.val * 512 + r.val, by have := i.isLt; have := r.isLt; omega⟩

theorem blkScore_eq (Q : FVec Ideal S4096x128 .f32) (C : FVec Ideal S100352x128 .f32) (x0 : FVec Ideal S512x128 .f32) (x1 : FVec Ideal S2048x128 .f32)
    (i : Fin 8) (j : Fin 49) (r : Fin 512) (a : Fin 16) (l : Fin 128) (h0 : ∀ k, x0 (ix2 r k) = Q (ix2 (rowOf i r) k))
    (h1 : ∀ n k, x1 (ix2 n k) = C (ix2 ⟨j.val * 2048 + n.val, by have := j.isLt; have := n.isLt; omega⟩ k)) :
    blkScore j.val x0 x1 r a l = score Q C (rowOf i r) (place j a l) := by
  unfold blkScore score dotp
  refine if_congr Iff.rfl (Finset.sum_congr rfl fun k _ => ?_) rfl
  rw [h0, h1]
  have e : (⟨j.val * 2048 + (inBlk a l).val, by have := j.isLt; have := (inBlk a l).isLt; omega⟩ : Fin 100352) = place j a l :=
    Fin.ext (by unfold place inBlk; dsimp only; omega)
  rw [e]

end Cert.KernelIdeal.Hand
-- ==== Proof.Host1.lean ====
/- What the host operations between the regions leave, read off the buffers they start from. -/
module

public import proofs.«01_k».proof.Proof.RunI
public import proofs.«01_k».proof.Proof.Score
public import Idealize.ShloMosaic.Lib.Tactic.CleanTypes

@[expose] public section

namespace Cert.KernelIdeal.Hand

open Cert.KernelIdeal.Gen Idealize.ShloMosaic Idealize.ShloMosaic.TcCoe Idealize.ShloMosaic.StableHlo

variable (W : Valuation τ sig (Elt Ideal))

/-- The padded candidates. -/
noncomputable def padded (A : FVec Ideal S100000x128 .f32) (z : IVec S_ 32) : FVec Ideal S100352x128 .f32 :=
  pad S100352x128 ![0, 0] ![352, 0] ![0, 0] A (sitofp .f32 z) pads_S100000x128_S100352x128_03520_000 h_S_

theorem read_v0 : after (hostOps0_1 (F := Ideal)) W (Proc.devRef .tc main_v0) = padded (W (Proc.devRef .tc main_arg1)) (W (Proc.devRef .tc main_c)) := by
  after_results; rfl

/-- The threshold column, spread over the lanes. -/
def spread (A : FVec Ideal S4096x128 .f32) : FVec Ideal S4096x128 .f32 :=
  broadcastInDim S4096x128 ![0, 1] bcast_S4096x1_S4096x128_0_1 (extractStridedSlice S4096x1 ![0, 0] A slices_S4096x128_S4096x1_0_0)

theorem read_v4 : after (hostOps2 (F := Ideal)) W (Proc.devRef .tc main_v4) = spread (W (Proc.devRef .tc main_v2)) := by
  after_results; rfl

/-- The picked candidates of all blocks side by side. -/
def flat {α : Type} (A : S49x4096x16.Idx → α) : S4096x784.Idx → α :=
  shapeCast S4096x784 (transpose S4096x49x16 [1, 0, 2] A transposes_S49x4096x16_S4096x49x16_1_0_2) shapeCasts_S4096x49x16_S4096x784

theorem read_v7 : after (hostOps3 (F := Ideal)) W (Proc.devRef .tc main_v7) = flat (W (Proc.devRef .tc main_v5_0)) := by
  after_results; rfl
theorem read_v9 : after (hostOps3 (F := Ideal)) W (Proc.devRef .tc main_v9) = flat (W (Proc.devRef .tc main_v5_1)) := by
  after_results; rfl

/-- The largest entry of column 0 of the counts, and of column 1. -/
def most0 (A : IVec S49x4096x16 32) : IVec S_ 32 :=
  Host.reduce IntOp.maxsi (shapeCast S49x4096 (extractStridedSlice S49x4096x1 ![0, 0, 0] A slices_S49x4096x16_S49x4096x1_0_0_0) shapeCasts_S49x4096x1_S49x4096)
    (constantI S_ 32 2147483648#32) reducesTo_S49x4096_S_d0_1 h_S_
def most1 (A : IVec S49x4096x16 32) : IVec S_ 32 :=
  Host.reduce IntOp.maxsi (shapeCast S49x4096 (extractStridedSlice S49x4096x1 ![0, 0, 1] A slices_S49x4096x16_S49x4096x1_0_0_1) shapeCasts_S49x4096x1_S49x4096)
    (constantI S_ 32 2147483648#32) reducesTo_S49x4096_S_d0_1 h_S_

theorem read_v18 : after (hostOps3 (F := Ideal)) W (Proc.devRef .tc main_v18)
    = ori (cmpi .sgt (most0 (W (Proc.devRef .tc main_v5_2))) (constantI S_ 32 16#32)) (cmpi .sgt (most1 (W (Proc.devRef .tc main_v5_2))) (constantI S_ 32 4#32)) := by
  after_results; rfl

theorem read_v19 : after (rdOps (F := Ideal)) W (Proc.devRef .tc main_v19) = (extui 32 (W (Proc.devRef .tc main_v18) : IVec S_ 1) natLt_1_32 : IVec S_ 32) := by
  after_results

/-- The places the first arm gathers at: a place below zero counts from the end. -/
def gatherAt (p : IVec S4096x100 32) : IVec S4096x100x1 32 :=
  shapeCast S4096x100x1 (select (cmpi .slt p (broadcastInDim S4096x100 ![] bcast_S_S4096x100 (constantI S_ 32 0#32)))
    (addi p (broadcastInDim S4096x100 ![] bcast_S_S4096x100 (constantI S_ 32 784#32))) p) shapeCasts_S4096x100_S4096x100x1

/-- Whether such a place lies in the row. -/
def inside (q : IVec S4096x100x1 32) : IVec S4096x100 1 :=
  Host.reduce IntOp.andi
    (andi (cmpi .sge q (broadcastInDim S4096x100x1 ![] bcast_S_S4096x100x1 (constantI S_ 32 0#32)))
      (cmpi .sle q (broadcastInDim S4096x100x1 ![0, 1, 2] bcast_S1x1x1_S4096x100x1_0_1_2
        (broadcastInDim S1x1x1 ![2] bcast_S1_S1x1x1_2 (constantI S1 32 783#32)))))
    (constantI S_ 1 1#1) reducesTo_S4096x100x1_S4096x100_d2 h_S_

/-- The hundred greatest entries of each row of 784, and their places. -/
noncomputable def best (U : FVec Ideal S4096x784 .f32) : FVec Ideal S4096x100 .f32 × IVec S4096x100 32 :=
  Host.topK S4096x100 1 (FloatOps.cmpfTotal .gt) U sliceFits_S4096x784_S4096x100

/-- The same of rows of 100000. -/
noncomputable def bestAll (U : FVec Ideal S4096x100000 .f32) : FVec Ideal S4096x100 .f32 × IVec S4096x100 32 :=
  Host.topK S4096x100 1 (FloatOps.cmpfTotal .gt) U sliceFits_S4096x100000_S4096x100

/-- The first arm's ids. -/
def taken (ids : IVec S4096x784 32) (p : IVec S4096x100 32) : IVec S4096x100 32 :=
  select (inside (gatherAt p)) (Host.gather gather_S4096x784_S4096x100x1_S4096x100_n_1_0_0_1_2_11 ids (gatherAt p))
    (broadcastInDim S4096x100 ![] bcast_S_S4096x100 (constantI S_ 32 2147483648#32))

theorem read_arm0_values : after (arm0Ops (F := Ideal)) W (Proc.devRef .tc main_v20_0) = (best (W (Proc.devRef .tc main_v7))).1 := by
  after_results; rfl

theorem read_arm0_ids : after (arm0Ops (F := Ideal)) W (Proc.devRef .tc main_v20_1)
    = taken (W (Proc.devRef .tc main_v9)) (best (W (Proc.devRef .tc main_v7))).2 := by
  after_results
  unfold best
  generalize (Host.topK (s := S4096x784) (α := Ideal .f32) S4096x100 1 (FloatOps.cmpfTotal .gt) _ sliceFits_S4096x784_S4096x100).2 = p
  unfold taken inside gatherAt
  simp only [TRef.ofBuf_toBuf]
  simp -implicitDefEqProofs only [TRef.toBuf, TRef.ofBuf, cast_cast, cast_eq]
  clean_types
  rw [id_eq]
  set q := shapeCast S4096x100x1 (select (cmpi .slt p (broadcastInDim S4096x100 ![] bcast_S_S4096x100 (constantI S_ 32 0#32)))
    (addi p (broadcastInDim S4096x100 ![] bcast_S_S4096x100 (constantI S_ 32 784#32))) p) shapeCasts_S4096x100_S4096x100x1 with hq
  rfl

/-- The second arm's scores, without the padding. -/
def cropped (A : FVec Ideal S4096x100352 .f32) : FVec Ideal S4096x100000 .f32 :=
  extractStridedSlice S4096x100000 ![0, 0] A slices_S4096x100352_S4096x100000_0_0

theorem read_arm1_values : after (arm1Ops (F := Ideal)) W (Proc.devRef .tc main_v20_0) = (bestAll (cropped (W (Proc.devRef .tc main_case0b1_v21)))).1 := by
  after_results; rfl
theorem read_arm1_ids : after (arm1Ops (F := Ideal)) W (Proc.devRef .tc main_v20_1) = (bestAll (cropped (W (Proc.devRef .tc main_case0b1_v21)))).2 := by
  after_results; rfl

end Cert.KernelIdeal.Hand
-- ==== Proof.Top.lean ====
/- The hundred greatest entries of every row, as the host takes them: row by row the row sorted in descending order, equal entries in the
   order of their places. -/
module

public import proofs.«01_k».proof.Proof.Host1

@[expose] public section

namespace Cert.KernelIdeal.Hand

open Cert.KernelIdeal.Gen Idealize.ShloMosaic Idealize.ShloMosaic.TcCoe Cert.Rows

theorem along_last {R n : Nat} (j : (⟨2, ![R, n]⟩ : Shape).Idx) (k : Fin n) : j.along (1 : Fin 2) k = ix2 (j 0) k := by
  funext a
  match a with
  | ⟨0, _⟩ => rfl
  | ⟨1, _⟩ => rfl

/-- The order the host sorts a row of scores by. -/
theorem before_eq {n : Nat} (x : Fin n → EReal) (k k' : Fin n) :
    ((FloatOps.cmpfTotal (F := Ideal) (φ := .f32) .gt (x k) (x k') == 1#1) : Bool) = decide (x k' < x k) := by
  rw [Ideal.cmpfTotal_def]
  by_cases h : x k' < x k
  · simp [Ideal.cmp, CmpDirection.ordered, h]
  · simp [Ideal.cmp, CmpDirection.ordered, h]

/-- A row of an array. -/
def row {n : Nat} (x : FVec Ideal ⟨2, ![4096, n]⟩ .f32) (R : Fin 4096) : Fin n → EReal := fun p => x (ix2 R p)

theorem sort_at {n : Nat} {β : Type} (x : FVec Ideal ⟨2, ![4096, n]⟩ .f32) (y : (⟨2, ![4096, n]⟩ : Shape).Idx → β) (R : Fin 4096) (p : Fin n) :
    (Host.sort2 (⟨2, ![4096, n]⟩ : Shape) 1 (fun l r => FloatOps.cmpfTotal (F := Ideal) (φ := .f32) .gt l.1 r.1) x y).1 (ix2 R p) = row x R (places (row x R) p)
    ∧ (Host.sort2 (⟨2, ![4096, n]⟩ : Shape) 1 (fun l r => FloatOps.cmpfTotal (F := Ideal) (φ := .f32) .gt l.1 r.1) x y).2 (ix2 R p) = y (ix2 R (places (row x R) p)) := by
  have hp : sortedFrom (fun k k' : Fin n => FloatOps.cmpfTotal (F := Ideal) (φ := .f32) .gt (x ((ix2 R p).along (1 : Fin 2) k)) (x ((ix2 R p).along (1 : Fin 2) k')) == 1#1) p
      = places (row x R) p := by
    unfold places
    congr 1
    funext k k'
    rw [along_last, along_last]
    exact before_eq (row x R) k k'
  unfold Host.sort2
  rw [dif_pos (by decide : 1 < 2)]
  constructor
  · refine Eq.trans ?_ (congrArg (row x R) hp)
    exact congrArg x (along_last (ix2 R p) _)
  · refine Eq.trans ?_ (congrArg (fun q => y (ix2 R q)) hp)
    exact congrArg y (along_last (ix2 R p) _)

theorem slice_at {n : Nat} {β : Type} (z : (⟨2, ![4096, n]⟩ : Shape).Idx → β) (h : (⟨2, ![4096, n]⟩ : Shape).Slices (fun _ => 0) S4096x100) (hn : 100 ≤ n)
    (R : Fin 4096) (k : Fin 100) : extractStridedSlice S4096x100 (fun _ => 0) z h (ix2 R k) = z (ix2 R (k.castLE hn)) :=
  extractStridedSlice_apply _ z h _ _ (by
    intro a
    match a with
    | ⟨0, _⟩ => simp [ix2]
    | ⟨1, _⟩ => simp [ix2])

theorem topK_at {n : Nat} (x : FVec Ideal ⟨2, ![4096, n]⟩ .f32) (h : (⟨2, ![4096, n]⟩ : Shape).Slices (fun _ => 0) S4096x100) (hn : 100 ≤ n)
    (R : Fin 4096) (k : Fin 100) :
    (Host.topK S4096x100 1 (FloatOps.cmpfTotal .gt) x h).1 (ix2 R k) = row x R (places (row x R) (k.castLE hn))
    ∧ (Host.topK S4096x100 1 (FloatOps.cmpfTotal .gt) x h).2 (ix2 R k) = BitVec.ofNat 32 (places (row x R) (k.castLE hn)).val := by
  unfold Host.topK
  dsimp only
  constructor
  · refine (slice_at _ h hn R k).trans ?_
    exact (sort_at x _ R (k.castLE hn)).1
  · refine (slice_at _ h hn R k).trans ?_
    refine (sort_at x _ R (k.castLE hn)).2.trans ?_
    rfl

end Cert.KernelIdeal.Hand
-- ==== Proof.Host2.lean ====
/- The host operations read entry by entry. -/
module

public import proofs.«01_k».proof.Proof.Top
public import proofs.«01_k».proof.Proof.Folds
public import proofs.«01_k».proof.Proof.Read2
public import proofs.«01_k».proof.Proof.Read2
public import proofs.«01_k».proof.Proof.Read2
public import Idealize.ShloMosaic.Lib.Pointwise

@[expose] public section

namespace Cert.KernelIdeal.Hand

open Cert.KernelIdeal.Gen Idealize.ShloMosaic Idealize.ShloMosaic.TcCoe Cert.Rows

theorem padded_at (A : FVec Ideal S100000x128 .f32) (z : IVec S_ 32) (n : Fin 100352) (h : n.val < 100000) (k : Fin 128) :
    padded A z (ix2 n k) = A (ix2 ⟨n.val, h⟩ k) := by
  unfold padded
  pointwise
  exact dif_pos h

theorem spread_at (A : FVec Ideal S4096x128 .f32) (R : Fin 4096) (l : Fin 128) : spread A (ix2 R l) = A (ix2 R 0) := by
  unfold spread
  pointwise

theorem flat_at {α : Type} (A : S49x4096x16.Idx → α) (R : Fin 4096) (q : Fin 784) :
    flat A (ix2 R q) = A (ix3 (⟨q.val / 16, by have := q.isLt; omega⟩ : Fin 49) R (⟨q.val % 16, by omega⟩ : Fin 16)) := by
  unfold flat
  pointwise

theorem cropped_at (A : FVec Ideal S4096x100352 .f32) (R : Fin 4096) (n : Fin 100000) :
    cropped A (ix2 R n) = A (ix2 R (n.castLE (by omega))) := by
  unfold cropped
  pointwise
  rfl

/-- The word of a place in a row of 784, read signed. -/
theorem place_toInt (q : Fin 784) : (BitVec.ofNat 32 q.val).toInt = q.val := by
  have := q.isLt
  exact WordCmp.toInt_ofNat_of_lt (by norm_num; omega)

theorem gatherAt_at (p : IVec S4096x100 32) (R : Fin 4096) (k : Fin 100) (q : Fin 784) (h : p (ix2 R k) = BitVec.ofNat 32 q.val) :
    gatherAt p (ix3 R k (0 : Fin 1)) = BitVec.ofNat 32 q.val := by
  unfold gatherAt
  pointwise
  rw [h, WordCmp.cmpi_slt_eq, place_toInt, sel_ite, if_neg]
  have h0 : (0#32 : BitVec 32).toInt = 0 := by decide
  rw [h0, decide_eq_false (by omega)]
  decide

theorem inside_at (g : IVec S4096x100x1 32) (R : Fin 4096) (k : Fin 100) (q : Fin 784) (h : g (ix3 R k (0 : Fin 1)) = BitVec.ofNat 32 q.val) :
    inside g (ix2 R k) = 1#1 := by
  unfold inside
  pointwise
  rw [Finset.univ_unique, Finset.fold_singleton]
  rw [show (default : Fin 1) = 0 from rfl, h, WordCmp.cmpi_sge_eq, WordCmp.cmpi_sle_eq, place_toInt]
  have h0 : (0#32 : BitVec 32).toInt = 0 := by decide
  have h1 : (783#32 : BitVec 32).toInt = 783 := by decide
  have := q.isLt
  rw [h0, h1, decide_eq_true (by omega), decide_eq_true (by omega)]
  decide

theorem gather_at (ids : IVec S4096x784 32) (g : IVec S4096x100x1 32) (R : Fin 4096) (k : Fin 100) (q : Fin 784)
    (h : g (ix3 R k (0 : Fin 1)) = BitVec.ofNat 32 q.val) :
    Host.gather gather_S4096x784_S4096x100x1_S4096x100_n_1_0_0_1_2_11 ids g (ix2 R k) = ids (ix2 R q) := by
  unfold Host.gather
  refine congrArg ids (funext fun a => Fin.ext ?_)
  change GatherDims.start gather_S4096x784_S4096x100x1_S4096x100_n_1_0_0_1_2_11 (ix2 R k) g a + GatherDims.batchCoord gather_S4096x784_S4096x100x1_S4096x100_n_1_0_0_1_2_11 (ix2 R k) a
    + GatherDims.offCoord gather_S4096x784_S4096x100x1_S4096x100_n_1_0_0_1_2_11 (ix2 R k) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    rw [Nat.zero_add, Nat.add_zero]
    rfl
  | ⟨1, _⟩ =>
    rw [GatherDims.batchCoord_eq_zero _ _ _ (fun h => by simp [gather_S4096x784_S4096x100x1_S4096x100_n_1_0_0_1_2_11] at h),
      GatherDims.offCoord_eq_zero _ _ _ (fun h => ((GatherDims.mem_sKept _ _).mp h).1 (List.mem_singleton.mpr rfl))]
    rw [Nat.add_zero]
    unfold GatherDims.start
    rw [dif_pos (show (⟨1, by decide⟩ : Fin 2) ∈ gather_S4096x784_S4096x100x1_S4096x100_n_1_0_0_1_2_11.startIndexMap from List.mem_singleton.mpr rfl)]
    have e : GatherDims.siIdx gather_S4096x784_S4096x100x1_S4096x100_n_1_0_0_1_2_11 (ix2 R k) ⟨List.idxOf (1 : Fin 2) [1], by decide⟩ = ix3 R k (0 : Fin 1) := by
      funext b
      refine Fin.ext ?_
      match b with
      | ⟨0, _⟩ => rfl
      | ⟨1, _⟩ => rfl
      | ⟨2, _⟩ => rfl
    have e' := congrArg g e
    rw [h] at e'
    have e'' := congrArg (fun w : BitVec 32 => min w.toInt.toNat 783) e'
    refine Eq.trans e'' ?_
    have := q.isLt
    simp only [place_toInt]
    show min q.val 783 = q.val
    omega

theorem taken_at (ids : IVec S4096x784 32) (p : IVec S4096x100 32) (R : Fin 4096) (k : Fin 100) (q : Fin 784) (h : p (ix2 R k) = BitVec.ofNat 32 q.val) :
    taken ids p (ix2 R k) = ids (ix2 R q) := by
  have hg := gatherAt_at p R k q h
  unfold taken
  pointwise
  rw [inside_at _ R k q hg, gather_at ids _ R k q hg]
  rfl

/-- Each count is at most the largest. -/
theorem most0_ge (A : IVec S49x4096x16 32) (j : Fin 49) (R : Fin 4096) (i : S_.Idx) : (A (ix3 j R 0)).toInt ≤ (most0 A i).toInt := by
  unfold most0
  pointwise
  exact (foldMaxsi_spec 2147483648#32 (fun x : Fin 49 × Fin 4096 => A (ix3 x.1 x.2 0)) Finset.univ).1 (j, R) (Finset.mem_univ _)

theorem most1_ge (A : IVec S49x4096x16 32) (j : Fin 49) (R : Fin 4096) (i : S_.Idx) : (A (ix3 j R 1)).toInt ≤ (most1 A i).toInt := by
  unfold most1
  pointwise
  exact (foldMaxsi_spec 2147483648#32 (fun x : Fin 49 × Fin 4096 => A (ix3 x.1 x.2 1)) Finset.univ).1 (j, R) (Finset.mem_univ _)

/-- The bit the host branches on: set when a block or a lane holds more than the kernel kept. -/
def overflow (A : IVec S49x4096x16 32) : IVec S_ 1 :=
  ori (cmpi .sgt (most0 A) (constantI S_ 32 16#32)) (cmpi .sgt (most1 A) (constantI S_ 32 4#32))

theorem not_lt_of_bit (a b : Int) (h : BitVec.ofBool (decide (a < b)) ≠ 1#1) : b ≤ a := by
  by_contra hn
  exact h (by rw [decide_eq_true (by omega)]; rfl)

/-- Where the bit is clear no count exceeds what the kernel kept. -/
theorem calm (A : IVec S49x4096x16 32) (i : S_.Idx) (h : overflow A i ≠ 1#1) (j : Fin 49) (R : Fin 4096) :
    (A (ix3 j R 0)).toInt ≤ 16 ∧ (A (ix3 j R 1)).toInt ≤ 4 := by
  have h' : (IntOp.ori (IntOp.cmpi .sgt (most0 A i) 16#32) (IntOp.cmpi .sgt (most1 A i) 4#32)) ≠ 1#1 := h
  rw [WordCmp.cmpi_sgt_eq, WordCmp.cmpi_sgt_eq] at h'
  have c0 : (16#32 : BitVec 32).toInt = 16 := by decide
  have c1 : (4#32 : BitVec 32).toInt = 4 := by decide
  rw [c0, c1] at h'
  have e : ∀ x y : BitVec 1, IntOp.ori x y ≠ 1#1 → x ≠ 1#1 ∧ y ≠ 1#1 := by decide
  obtain ⟨a, b⟩ := e _ _ h'
  exact ⟨(most0_ge A j R i).trans (not_lt_of_bit _ _ a), (most1_ge A j R i).trans (not_lt_of_bit _ _ b)⟩

end Cert.KernelIdeal.Hand
-- ==== Proof.Arr0.lean ====
/- The array region 0 leaves: every group's greatest score. -/
module

public import proofs.«01_k».proof.Proof.Score
public import proofs.«01_k».proof.Proof.BodyI0
public import Idealize.ShloMosaic.Lib.Pipeline.ValueKit

@[expose] public section

namespace Cert.KernelIdeal.Hand

open Cert.KernelIdeal.Gen Idealize.ShloMosaic Idealize.ShloMosaic.TcCoe Cert.Rows
open Idealize.ShloMosaic.Pipeline (Dat Cfg Window)

variable (V : (c : Dev nD) → (b : Ref sig .tc) → Buf (Elt Ideal) ((c : Thread nD τ).loc b))

theorem idx0_0 : ∀ t : Fin cfg0.N, win0_0.index t = ![(grid0.coords t 0).val, 0] := (by decide +kernel : ∀ t : Fin grid0.N, _)
theorem idx0_1 : ∀ t : Fin cfg0.N, win0_1.index t = ![(grid0.coords t 1).val, 0] := (by decide +kernel : ∀ t : Fin grid0.N, _)
theorem idx0_2 : ∀ t : Fin cfg0.N, win0_2.index t = ![(grid0.coords t 0).val, (grid0.coords t 1).val] := (by decide +kernel : ∀ t : Fin grid0.N, _)

theorem q0_apply (c : Dev nD) (t : Fin cfg0.N) (r : Fin 512) (k : Fin 128) :
    iblk0 V c 0 t (ix2 r k) = V c main_arg0 (ix2 (rowOf (grid0.coords t 0) r) k) := by
  blk_simp [iblk0]
  refine congrArg _ ?_
  blk_ext [idx0_0]
  rfl

theorem c0_apply (c : Dev nD) (t : Fin cfg0.N) (n : Fin 2048) (k : Fin 128) :
    iblk0 V c 1 t (ix2 n k) = V c main_v0 (ix2 ⟨(grid0.coords t 1).val * 2048 + n.val, by have := (grid0.coords t 1).isLt; have := n.isLt; simp at *; omega⟩ k) := by
  blk_simp [iblk0]
  refine congrArg _ ?_
  blk_ext [idx0_1]

/-- Region 0's result at row `i 0`, column `i 1`. -/
noncomputable def grp (Q : FVec Ideal S4096x128 .f32) (C : FVec Ideal S100352x128 .f32) : FVec Ideal S4096x6272 .f32 :=
  fun i => group Q C (i 0) (colBlk (i 1)) (colLane (i 1))

theorem arr0 (c : Dev nD) : (dat0 V c).arrAt 2 cfg0.N = grp (V c main_arg0) (V c main_v0) := by
  refine (dat0 V c).arrAt_eq_of_covers 2 _ (by decide +kernel) fun t hf y => ?_
  blk_simp
  rw [after0_2]
  frame_out
  obtain ⟨r, l, rfl⟩ : ∃ (r : Fin 512) (l : Fin 128), y = ix2 r l := ⟨y 0, y 1, (eq_ix2 y)⟩
  have e0 : ((win0_2.blk t).view.emb (ix2 r l) 0 : Fin 4096) = rowOf (grid0.coords t 0) r := Fin.ext (by blk_simp [idx0_2]; rfl)
  have e1 : ((win0_2.blk t).view.emb (ix2 r l) 1 : Fin 6272).val = (grid0.coords t 1).val * 128 + l.val := by blk_simp [idx0_2]
  have hl := l.isLt
  have e2 : colBlk ((win0_2.blk t).view.emb (ix2 r l) 1) = grid0.coords t 1 := Fin.ext (by unfold colBlk; dsimp only; rw [e1]; omega)
  have e3 : colLane ((win0_2.blk t).view.emb (ix2 r l) 1) = l := Fin.ext (by unfold colLane; dsimp only; rw [e1]; omega)
  refine (pay0_apply (grid0.coords t) _ _ r l).trans ?_
  unfold grp group
  refine Eq.trans ?_ (congrArg (fun f => Finset.fold max ⊥ f Finset.univ) (funext fun a => (congrArg₂ (score _ _) e0 (congrArg₂ (fun j l => place j a l) e2 e3)).symm))
  exact congrArg (fun f => Finset.fold max ⊥ f Finset.univ) (funext fun a =>
    blkScore_eq (V c main_arg0) (V c main_v0) _ _ (grid0.coords t 0) (grid0.coords t 1) r a l (fun k => q0_apply V c t r k) (fun n k => c0_apply V c t n k))

end Cert.KernelIdeal.Hand
-- ==== Proof.Arr1.lean ====
/- The array region 1 leaves: for each row a threshold which at least a hundred of its groups reach. -/
module

public import proofs.«01_k».proof.Proof.Score
public import proofs.«01_k».proof.Proof.BodyI1
public import Idealize.ShloMosaic.Lib.WholeRead
public import Idealize.ShloMosaic.Lib.Pipeline.ValueKit

@[expose] public section

namespace Cert.KernelIdeal.Hand

open Cert.KernelIdeal.Gen Idealize.ShloMosaic Idealize.ShloMosaic.TcCoe Cert.Rows
open Idealize.ShloMosaic.Pipeline (Dat Cfg Window)

variable (V : (c : Dev nD) → (b : Ref sig .tc) → Buf (Elt Ideal) ((c : Thread nD τ).loc b))

/-- The threshold after a number of rounds. -/
noncomputable def thrRound {F : FTy → Type} [FloatOps F] (x0 : FVec F S512x6272 .f32) : Nat → FVec F S512x1 .f32
  | 0 => k1_pay2 x0
  | e + 1 => k1_pay3 x0 (thrRound x0 e)

theorem fold_thr {F : FTy → Type} [FloatOps F] (x0 : FVec F S512x6272 .f32) (n : Nat) :
    Scf.fold (n := n) (fun _ p => k1_pay3 x0 p) (k1_pay2 x0) = thrRound x0 n := by
  rw [Scf.fold_eq]
  have : ∀ (l : List (Fin n)) (k : Nat), l.foldl (fun p _ => k1_pay3 x0 p) (thrRound x0 k) = thrRound x0 (k + l.length) := by
    intro l
    induction l with
    | nil => intro k; rfl
    | cons a l ih =>
      intro k
      rw [List.foldl_cons]
      refine (ih (k + 1)).trans ?_
      rw [List.length_cons]; congr 1; omega
  have h := this (List.finRange n) 0
  rw [List.length_finRange, Nat.zero_add] at h
  exact h

theorem out1_eq (c : Dev nD) (i : grid1.Coords) (arg1 : Memref sig .tc .vmem S512x6272 .f32) (harg1 : arg1.IsWhole) (arg2 : Memref sig .tc .vmem S512x128 .f32) (harg2 : arg2.IsWhole)
    (x0 : FVec Ideal S512x6272 .f32) : out1_A_1 (F := Ideal) c i arg1 harg1 arg2 harg2 x0 = k1_pay4 (F := Ideal) (thrRound x0 99) := by
  have hx : View.readAt (Elt Ideal) arg1.view (Rect.unit ![0, 0] S512x6272.size inb_S512x6272_S512x6272_0_0).toLoadRect (harg1.unread x0) = x0 := by
    funext y
    rw [Memref.IsWhole.readAt_unread]
    refine congrArg x0 ?_
    funext a
    match a with
    | ⟨0, _⟩ => exact Fin.ext (by simp [Rect.emb])
    | ⟨1, _⟩ => exact Fin.ext (by simp [Rect.emb])
  unfold out1_A_1
  refine (View.read_writes_eq_canon VO1_1 VO1_1.junk _ (cover1_A_1 (F := Ideal) c i arg1 harg1 arg2 harg2 x0)).trans ?_
  unfold kernelRun1_A
  dsimp only
  unfold kernelRun1_A.sl.r
  rw [hx]
  refine (View.canon_unit_zero (by funext a; match a with | ⟨0, _⟩ => rfl | ⟨1, _⟩ => rfl) _ _).trans ?_
  exact congrArg _ (fold_thr x0 99)

/-- The rounds end at a value that at least a hundred entries of the row reach. -/
theorem thr_spec (x0 : FVec Ideal S512x6272 .f32) (r : Fin 512) : 100 ≤ cnt (fun c : Fin 6272 => x0 (ix2 r c)) (thrRound x0 99 (ix2 r 0)) := by
  refine cnt_threshold (fun c : Fin 6272 => x0 (ix2 r c)) 99 (by rw [Fintype.card_fin]; norm_num) (fun e => thrRound x0 e (ix2 r 0)) ?_ ?_
  · obtain ⟨a, ha⟩ := foldMax_attained (fun c : Fin 6272 => x0 (ix2 r c))
    exact ⟨a, ha.trans (top_apply x0 r).symm⟩
  · intro e
    have h := round_apply x0 (thrRound x0 e) r
    have hcnt := foldAdd_count (fun a : Fin 6272 => if thrRound x0 e (ix2 r 0) ≤ x0 (ix2 r a) then 1#32 else 0#32)
      (fun a => thrRound x0 e (ix2 r 0) ≤ x0 (ix2 r a)) (fun _ => rfl) (by rw [Fintype.card_fin]; norm_num)
    have hle : (Finset.univ.filter fun a : Fin 6272 => thrRound x0 e (ix2 r 0) ≤ x0 (ix2 r a)).card ≤ 6272 :=
      (Finset.card_le_univ _).trans (by rw [Fintype.card_fin])
    have hc : IntOp.cmpi .sge ((Finset.univ : Finset (Fin 6272)).fold IntOp.addi 0#32 fun a => if thrRound x0 e (ix2 r 0) ≤ x0 (ix2 r a) then 1#32 else 0#32) 100#32 = 1#1
        ↔ 100 ≤ cnt (fun c : Fin 6272 => x0 (ix2 r c)) (thrRound x0 e (ix2 r 0)) := by
      rw [WordCmp.cmpi_sge_of_lt (by rw [hcnt]; omega) (by decide), WordCmp.ofBool_decide_eq_one_iff, hcnt]
      rfl
    by_cases hk : 100 ≤ cnt (fun c : Fin 6272 => x0 (ix2 r c)) (thrRound x0 e (ix2 r 0))
    · left
      exact ⟨hk, h.trans (if_pos (hc.mpr hk))⟩
    · right
      refine ⟨not_le.mp hk, ?_⟩
      have h' : thrRound x0 (e + 1) (ix2 r 0) = _ := h.trans (if_neg (fun q => hk (hc.mp q)))
      obtain ⟨a, ha⟩ := foldMax_attained (fun a : Fin 6272 => if x0 (ix2 r a) < thrRound x0 e (ix2 r 0) then x0 (ix2 r a) else ⊥)
      by_cases hb : ∃ b : Fin 6272, x0 (ix2 r b) < thrRound x0 e (ix2 r 0)
      · left
        by_cases hlt : x0 (ix2 r a) < thrRound x0 e (ix2 r 0)
        · refine ⟨a, hlt, ?_⟩
          rw [if_pos hlt] at ha
          exact ha.trans h'.symm
        · rw [if_neg hlt] at ha
          obtain ⟨b, hb⟩ := hb
          refine ⟨b, hb, ?_⟩
          have := le_foldMax (fun a : Fin 6272 => if x0 (ix2 r a) < thrRound x0 e (ix2 r 0) then x0 (ix2 r a) else ⊥) b
          rw [← ha] at this
          simp only [if_pos hb] at this
          rw [h', ← ha]
          exact le_bot_iff.mp this
      · right
        exact fun a => not_lt.mp fun q => hb ⟨a, q⟩

theorem idx1_0 : ∀ t : Fin cfg1.N, win1_0.index t = ![(grid1.coords t 0).val, 0] := (by decide +kernel : ∀ t : Fin grid1.N, _)
theorem idx1_1 : ∀ t : Fin cfg1.N, win1_1.index t = ![(grid1.coords t 0).val, 0] := (by decide +kernel : ∀ t : Fin grid1.N, _)

theorem g1_apply (c : Dev nD) (t : Fin cfg1.N) (r : Fin 512) (k : Fin 6272) :
    iblk1 V c 0 t (ix2 r k) = V c main_v1 (ix2 (rowOf (grid1.coords t 0) r) k) := by
  blk_simp [iblk1]
  refine congrArg _ ?_
  blk_ext [idx1_0]
  rfl

/-- At least a hundred groups of row `R` reach the value. -/
def Reached (G : FVec Ideal S4096x6272 .f32) (R : Fin 4096) (v : EReal) : Prop := 100 ≤ cnt (fun k : Fin 6272 => G (ix2 R k)) v

/-- Every entry of the array region 1 leaves is reached by at least a hundred groups of its row. -/
theorem arr1 (c : Dev nD) (i : S4096x128.Idx) : Reached (V c main_v1) (i 0) ((dat1 V c).arrAt 1 cfg1.N i) := by
  refine (dat1 V c).arrAt_forall_of_covers 1 (fun i v => Reached (V c main_v1) (i 0) v) (by decide +kernel) (fun t hf y => ?_) i
  blk_simp
  rw [after1_1]
  obtain ⟨r, l, rfl⟩ : ∃ (r : Fin 512) (l : Fin 128), y = ix2 r l := ⟨y 0, y 1, (eq_ix2 y)⟩
  have e0 : ((win1_1.blk t).view.emb (ix2 r l) 0 : Fin 4096) = rowOf (grid1.coords t 0) r := Fin.ext (by blk_simp [idx1_1]; rfl)
  refine Eq.mp (congrArg₂ (Reached (V c main_v1)) e0.symm rfl) ?_
  unfold outsAt1
  rw [out1_eq, pay14_apply]
  have h := thr_spec (iblk1 V c 0 t) r
  refine h.trans (le_of_eq ?_)
  exact congrArg (fun x => cnt x _) (funext fun k => g1_apply V c t r k)

end Cert.KernelIdeal.Hand
-- ==== Proof.Arr2.lean ====
/- The arrays region 2 leaves: each block's sixteen picks, their ids, and how many of the block's scores reach the row's threshold. -/
module

public import proofs.«01_k».proof.Proof.Score
public import proofs.«01_k».proof.Proof.Steps2
public import proofs.«01_k».proof.Proof.BodyI2
public import Idealize.ShloMosaic.Lib.Pipeline.ValueKit

@[expose] public section

namespace Cert.KernelIdeal.Hand

open Cert.KernelIdeal.Gen Idealize.ShloMosaic Idealize.ShloMosaic.TcCoe Cert.Rows
open Idealize.ShloMosaic.Pipeline (Dat Cfg Window)

/-- A row's block of 512 rows, and its place there. -/
def rowBlk (R : Fin 4096) : Fin 8 := ⟨R.val / 512, by have := R.isLt; omega⟩
def rowIn (R : Fin 4096) : Fin 512 := ⟨R.val % 512, Nat.mod_lt _ (by norm_num)⟩

theorem rowOf_split (R : Fin 4096) : rowOf (rowBlk R) (rowIn R) = R := Fin.ext (by unfold rowOf rowBlk rowIn; dsimp only; omega)
theorem rowBlk_of (i : Fin 8) (r : Fin 512) : rowBlk (rowOf i r) = i := Fin.ext (by have := r.isLt; unfold rowOf rowBlk; dsimp only; omega)
theorem rowIn_of (i : Fin 8) (r : Fin 512) : rowIn (rowOf i r) = r := Fin.ext (by have := r.isLt; unfold rowOf rowIn; dsimp only; omega)

/-- The scores of a block of rows against a block of places. -/
noncomputable def wBlk (Q : FVec Ideal S4096x128 .f32) (C : FVec Ideal S100352x128 .f32) (i : Fin 8) (j : Fin 49) : FVec Ideal S512x16x128 .f32 :=
  fun y => score Q C (rowOf i (y 0)) (place j (y 1) (y 2))

/-- The thresholds of a block of rows. -/
noncomputable def tBlk (T : FVec Ideal S4096x128 .f32) (i : Fin 8) : FVec Ideal S512x1 .f32 := fun y => T (ix2 (rowOf i (y 0)) 0)

/-- Block `j`'s pick in slot `s` for row `R`. -/
noncomputable def pickAt (Q : FVec Ideal S4096x128 .f32) (C : FVec Ideal S100352x128 .f32) (T : FVec Ideal S4096x128 .f32) (j : Fin 49) (R : Fin 4096)
    (s : Fin 16) : EReal := blockV (stackV (tBlk T (rowBlk R)) (wBlk Q C (rowBlk R) j)) (ix2 (rowIn R) s)

/-- Its id. -/
noncomputable def pickIdAt (Q : FVec Ideal S4096x128 .f32) (C : FVec Ideal S100352x128 .f32) (T : FVec Ideal S4096x128 .f32) (j : Fin 49) (R : Fin 4096)
    (s : Fin 16) : BitVec 32 :=
  blockI (stackI (BitVec.ofNat 32 j.val) (tBlk T (rowBlk R)) (wBlk Q C (rowBlk R) j)) (stackV (tBlk T (rowBlk R)) (wBlk Q C (rowBlk R) j)) (ix2 (rowIn R) s)

theorem pickAt_of (Q : FVec Ideal S4096x128 .f32) (C : FVec Ideal S100352x128 .f32) (T : FVec Ideal S4096x128 .f32) (j : Fin 49) (i : Fin 8) (r : Fin 512)
    (s : Fin 16) : pickAt Q C T j (rowOf i r) s = blockV (stackV (tBlk T i) (wBlk Q C i j)) (ix2 r s) := by
  unfold pickAt
  rw [rowBlk_of, rowIn_of]

theorem pickIdAt_of (Q : FVec Ideal S4096x128 .f32) (C : FVec Ideal S100352x128 .f32) (T : FVec Ideal S4096x128 .f32) (j : Fin 49) (i : Fin 8) (r : Fin 512)
    (s : Fin 16) : pickIdAt Q C T j (rowOf i r) s
      = blockI (stackI (BitVec.ofNat 32 j.val) (tBlk T i) (wBlk Q C i j)) (stackV (tBlk T i) (wBlk Q C i j)) (ix2 r s) := by
  unfold pickIdAt
  rw [rowBlk_of, rowIn_of]

/-- All picks, and all ids. -/
noncomputable def picks (Q : FVec Ideal S4096x128 .f32) (C : FVec Ideal S100352x128 .f32) (T : FVec Ideal S4096x128 .f32) : FVec Ideal S49x4096x16 .f32 :=
  fun y => pickAt Q C T (y 0) (y 1) (y 2)
noncomputable def pickIds (Q : FVec Ideal S4096x128 .f32) (C : FVec Ideal S100352x128 .f32) (T : FVec Ideal S4096x128 .f32) : IVec S49x4096x16 32 :=
  fun y => pickIdAt Q C T (y 0) (y 1) (y 2)

/-- How many of a lane's scores reach the row's threshold. -/
noncomputable def laneCnt (Q : FVec Ideal S4096x128 .f32) (C : FVec Ideal S100352x128 .f32) (v : EReal) (R : Fin 4096) (j : Fin 49) (l : Fin 128) : Nat :=
  cnt (fun a : Fin 16 => score Q C R (place j a l)) v

/-- What the count array holds: in slot 0 the block's count, in slot 1 no less than any lane's. -/
def Counted (Q : FVec Ideal S4096x128 .f32) (C : FVec Ideal S100352x128 .f32) (T : FVec Ideal S4096x128 .f32) (j : Fin 49) (R : Fin 4096) (s : Fin 16)
    (v : BitVec 32) : Prop :=
  (s.val = 0 → v.toInt = ((∑ l, laneCnt Q C (T (ix2 R 0)) R j l : Nat) : Int)) ∧ (s.val = 1 → ∀ l, (laneCnt Q C (T (ix2 R 0)) R j l : Int) ≤ v.toInt)

variable (V : (c : Dev nD) → (b : Ref sig .tc) → Buf (Elt Ideal) ((c : Thread nD τ).loc b))

theorem idx2_0 : ∀ t : Fin cfg2.N, win2_0.index t = ![(grid2.coords t 0).val, 0] := (by decide +kernel : ∀ t : Fin grid2.N, _)
theorem idx2_1 : ∀ t : Fin cfg2.N, win2_1.index t = ![(grid2.coords t 1).val, 0] := (by decide +kernel : ∀ t : Fin grid2.N, _)
theorem idx2_2 : ∀ t : Fin cfg2.N, win2_2.index t = ![(grid2.coords t 0).val, 0] := (by decide +kernel : ∀ t : Fin grid2.N, _)
theorem idx2_3 : ∀ t : Fin cfg2.N, win2_3.index t = ![(grid2.coords t 1).val, (grid2.coords t 0).val, 0] := (by decide +kernel : ∀ t : Fin grid2.N, _)
theorem idx2_4 : ∀ t : Fin cfg2.N, win2_4.index t = ![(grid2.coords t 1).val, (grid2.coords t 0).val, 0] := (by decide +kernel : ∀ t : Fin grid2.N, _)
theorem idx2_5 : ∀ t : Fin cfg2.N, win2_5.index t = ![(grid2.coords t 1).val, (grid2.coords t 0).val, 0] := (by decide +kernel : ∀ t : Fin grid2.N, _)

theorem q2_apply (c : Dev nD) (t : Fin cfg2.N) (r : Fin 512) (k : Fin 128) :
    iblk2 V c 0 t (ix2 r k) = V c main_arg0 (ix2 (rowOf (grid2.coords t 0) r) k) := by
  blk_simp [iblk2]
  refine congrArg _ ?_
  blk_ext [idx2_0]
  rfl

theorem c2_apply (c : Dev nD) (t : Fin cfg2.N) (n : Fin 2048) (k : Fin 128) :
    iblk2 V c 1 t (ix2 n k) = V c main_v0 (ix2 ⟨(grid2.coords t 1).val * 2048 + n.val, by have := (grid2.coords t 1).isLt; have := n.isLt; simp at *; omega⟩ k) := by
  blk_simp [iblk2]
  refine congrArg _ ?_
  blk_ext [idx2_1]

theorem t2_apply (c : Dev nD) (t : Fin cfg2.N) (r : Fin 512) (k : Fin 128) :
    iblk2 V c 2 t (ix2 r k) = V c main_v4 (ix2 (rowOf (grid2.coords t 0) r) k) := by
  blk_simp [iblk2]
  refine congrArg _ ?_
  blk_ext [idx2_2]
  rfl

theorem zero2 : (![0, 0] : Fin 2 → Nat) = fun _ => 0 := by funext a; match a with | ⟨0, _⟩ => rfl | ⟨1, _⟩ => rfl
theorem zero3 : (![0, 0, 0] : Fin 3 → Nat) = fun _ => 0 := by funext a; match a with | ⟨0, _⟩ => rfl | ⟨1, _⟩ => rfl | ⟨2, _⟩ => rfl

/-- The scores the body computes are the rows' scores at the block's places. -/
theorem sc2_eq (c : Dev nD) (t : Fin cfg2.N) :
    sc2 (F := Ideal) (grid2.coords t) (iblk2 V c 0 t) (iblk2 V c 1 t)
      = wBlk (V c main_arg0) (V c main_v0) (grid2.coords t 0) (grid2.coords t 1) := by
  funext y
  obtain ⟨r, a, l, rfl⟩ : ∃ (r : Fin 512) (a : Fin 16) (l : Fin 128), y = ix3 r a l := ⟨y 0, y 1, y 2, (eq_ix3 y)⟩
  unfold sc2
  rw [View.ld_unit_zero zero2, View.ld_unit_zero zero2, pay2_apply]
  exact blkScore_eq (V c main_arg0) (V c main_v0) _ _ (grid2.coords t 0) (grid2.coords t 1) r a l (fun k => q2_apply V c t r k)
    (fun n k => c2_apply V c t n k)

/-- The thresholds it reads are the rows'. -/
theorem thr2_eq (c : Dev nD) (t : Fin cfg2.N) : thr2 (F := Ideal) (iblk2 V c 2 t) = tBlk (V c main_v4) (grid2.coords t 0) := by
  funext y
  obtain ⟨r, l, rfl⟩ : ∃ (r : Fin 512) (l : Fin 1), y = ix2 r l := ⟨y 0, y 1, (eq_ix2 y)⟩
  obtain rfl : l = 0 := Subsingleton.elim _ _
  unfold thr2
  rw [View.ld_unit_zero zero2, pay1_apply]
  exact t2_apply V c t r 0

theorem cast_apply {α : Type} (x : S512x16.Idx → α) (r : Fin 512) (s : Fin 16) :
    shapeCast S1x512x16 x shapeCasts_S512x16_S1x512x16 (ix3 0 r s) = x (ix2 r s) := by
  pointwise

theorem arr2_3 (c : Dev nD) : (dat2 V c).arrAt 3 cfg2.N = picks (V c main_arg0) (V c main_v0) (V c main_v4) := by
  refine (dat2 V c).arrAt_eq_of_covers 3 _ (by decide +kernel) fun t hf y => ?_
  blk_simp
  rw [after2_3, out2_3_eq, thr2_eq, sc2_eq, View.canon_unit_zero zero3]
  obtain ⟨z, r, s, rfl⟩ : ∃ (z : Fin 1) (r : Fin 512) (s : Fin 16), y = ix3 z r s := ⟨y 0, y 1, y 2, (eq_ix3 y)⟩
  obtain rfl : z = 0 := Subsingleton.elim _ _
  have e0 : ((win2_3.blk t).view.emb (ix3 0 r s) 0 : Fin 49) = grid2.coords t 1 := Fin.ext (by blk_simp [idx2_3]; rfl)
  have e1 : ((win2_3.blk t).view.emb (ix3 0 r s) 1 : Fin 4096) = rowOf (grid2.coords t 0) r := Fin.ext (by blk_simp [idx2_3]; rfl)
  have e2 : ((win2_3.blk t).view.emb (ix3 0 r s) 2 : Fin 16) = s := Fin.ext (by blk_simp [idx2_3])
  refine (cast_apply _ r s).trans ?_
  refine Eq.trans ?_ (congr (congr (congrArg (pickAt (V c main_arg0) (V c main_v0) (V c main_v4)) e0) e1) e2).symm
  exact (pickAt_of _ _ _ _ _ _ _).symm

theorem arr2_4 (c : Dev nD) : (dat2 V c).arrAt 4 cfg2.N = pickIds (V c main_arg0) (V c main_v0) (V c main_v4) := by
  refine (dat2 V c).arrAt_eq_of_covers 4 _ (by decide +kernel) fun t hf y => ?_
  blk_simp
  rw [after2_4, out2_4_eq, thr2_eq, sc2_eq, View.canon_unit_zero zero3]
  obtain ⟨z, r, s, rfl⟩ : ∃ (z : Fin 1) (r : Fin 512) (s : Fin 16), y = ix3 z r s := ⟨y 0, y 1, y 2, (eq_ix3 y)⟩
  obtain rfl : z = 0 := Subsingleton.elim _ _
  have e0 : ((win2_4.blk t).view.emb (ix3 0 r s) 0 : Fin 49) = grid2.coords t 1 := Fin.ext (by blk_simp [idx2_4]; rfl)
  have e1 : ((win2_4.blk t).view.emb (ix3 0 r s) 1 : Fin 4096) = rowOf (grid2.coords t 0) r := Fin.ext (by blk_simp [idx2_4]; rfl)
  have e2 : ((win2_4.blk t).view.emb (ix3 0 r s) 2 : Fin 16) = s := Fin.ext (by blk_simp [idx2_4])
  refine (cast_apply _ r s).trans ?_
  refine Eq.trans ?_ (congr (congr (congrArg (pickIdAt (V c main_arg0) (V c main_v0) (V c main_v4)) e0) e1) e2).symm
  exact (pickIdAt_of _ _ _ _ _ _ _).symm

/-- The counts a body stores, per slot. -/
theorem pay92_zero (x y : IVec S512x1 32) (r : Fin 512) : k2_pay92 x y (ix3 0 r 0) = x (ix2 r 0) := by
  unfold k2_pay92
  refine (cast_apply _ r 0).trans ?_
  refine concatenate_apply_piece (t := S512x16) 1 _ _ (ix2 r 0) 0 ?_ S512x1 x ?_ rfl 0 ?_ (ix2 r 0) ?_ ?_
  · simp
  · rfl
  · rfl
  · exact fun b hb => by match b with | ⟨0, _⟩ => rfl | ⟨1, _⟩ => exact absurd rfl hb
  · rfl

theorem pay92_one (x y : IVec S512x1 32) (r : Fin 512) : k2_pay92 x y (ix3 0 r 1) = y (ix2 r 0) := by
  unfold k2_pay92
  refine (cast_apply _ r 1).trans ?_
  refine concatenate_apply_piece (t := S512x16) 1 _ _ (ix2 r 1) 1 ?_ S512x1 y ?_ rfl 1 ?_ (ix2 r 0) ?_ ?_
  · simp
  · rfl
  · rfl
  · exact fun b hb => by match b with | ⟨0, _⟩ => rfl | ⟨1, _⟩ => exact absurd rfl hb
  · rfl

/-- A lane's count, as a word. -/
theorem lane_word (i : grid2.Coords) (x2 x0 : FVec Ideal S512x128 .f32) (x1 : FVec Ideal S2048x128 .f32) (r : Fin 512) (l : Fin 128) :
    (k2_pay3 (F := Ideal) i x2 x0 x1 (ix2 r l)).toNat = cnt (fun a : Fin 16 => k2_pay2 (F := Ideal) i x0 x1 (ix3 r a l)) (k2_pay1 (F := Ideal) x2 (ix2 r 0)) := by
  rw [pay3_apply]
  exact foldAdd_count _ (fun a : Fin 16 => k2_pay1 (F := Ideal) x2 (ix2 r 0) ≤ k2_pay2 (F := Ideal) i x0 x1 (ix3 r a l)) (fun _ => rfl)
    (by rw [Fintype.card_fin]; norm_num)

theorem cnt_le_card {α : Type} [LinearOrder α] {ι : Type} [Fintype ι] (x : ι → α) (v : α) : cnt x v ≤ Fintype.card ι := Finset.card_le_univ _

theorem block_word (i : grid2.Coords) (x2 x0 : FVec Ideal S512x128 .f32) (x1 : FVec Ideal S2048x128 .f32) (r : Fin 512) :
    (k2_pay4 (F := Ideal) i x2 x0 x1 (ix2 r 0)).toInt
      = ((∑ l : Fin 128, cnt (fun a : Fin 16 => k2_pay2 (F := Ideal) i x0 x1 (ix3 r a l)) (k2_pay1 (F := Ideal) x2 (ix2 r 0)) : Nat) : Int) := by
  have hb : ∑ l : Fin 128, (k2_pay3 (F := Ideal) i x2 x0 x1 (ix2 r l)).toNat ≤ 2048 := by
    refine (Finset.sum_le_sum (g := fun _ => 16) fun l _ => ?_).trans (by simp)
    rw [lane_word]; exact (cnt_le_card _ _).trans (by rw [Fintype.card_fin])
  have h := foldAdd_toNat (fun l : Fin 128 => k2_pay3 (F := Ideal) i x2 x0 x1 (ix2 r l)) Finset.univ (by omega)
  rw [← pay4_apply] at h
  rw [BitVec.toInt_eq_toNat_of_lt (by rw [h]; omega), h]
  exact congrArg Nat.cast (Finset.sum_congr rfl fun l _ => lane_word i x2 x0 x1 r l)

theorem most_word (i : grid2.Coords) (x2 x0 : FVec Ideal S512x128 .f32) (x1 : FVec Ideal S2048x128 .f32) (r : Fin 512) (l : Fin 128) :
    ((cnt (fun a : Fin 16 => k2_pay2 (F := Ideal) i x0 x1 (ix3 r a l)) (k2_pay1 (F := Ideal) x2 (ix2 r 0)) : Nat) : Int)
      ≤ (k2_pay5 (F := Ideal) i x2 x0 x1 (ix2 r 0)).toInt := by
  have h := (foldMaxsi_spec 2147483648#32 (fun l : Fin 128 => k2_pay3 (F := Ideal) i x2 x0 x1 (ix2 r l)) Finset.univ).1 l (Finset.mem_univ l)
  rw [← pay5_apply] at h
  refine le_trans (le_of_eq ?_) h
  have hw := lane_word i x2 x0 x1 r l
  have hc := cnt_le_card (fun a : Fin 16 => k2_pay2 (F := Ideal) i x0 x1 (ix3 r a l)) (k2_pay1 (F := Ideal) x2 (ix2 r 0))
  rw [Fintype.card_fin] at hc
  rw [BitVec.toInt_eq_toNat_of_lt (by rw [hw]; omega), hw]

theorem arr2_5 (c : Dev nD) (y : S49x4096x16.Idx) :
    Counted (V c main_arg0) (V c main_v0) (V c main_v4) (y 0) (y 1) (y 2) ((dat2 V c).arrAt 5 cfg2.N y) := by
  refine (dat2 V c).arrAt_forall_of_covers 5 (fun y v => Counted (V c main_arg0) (V c main_v0) (V c main_v4) (y 0) (y 1) (y 2) v) (by decide +kernel)
    (fun t hf y => ?_) y
  blk_simp
  rw [after2_5]
  obtain ⟨z, r, s, rfl⟩ : ∃ (z : Fin 1) (r : Fin 512) (s : Fin 16), y = ix3 z r s := ⟨y 0, y 1, y 2, (eq_ix3 y)⟩
  obtain rfl : z = 0 := Subsingleton.elim _ _
  have e0 : ((win2_5.blk t).view.emb (ix3 0 r s) 0 : Fin 49) = grid2.coords t 1 := Fin.ext (by blk_simp [idx2_5]; rfl)
  have e1 : ((win2_5.blk t).view.emb (ix3 0 r s) 1 : Fin 4096) = rowOf (grid2.coords t 0) r := Fin.ext (by blk_simp [idx2_5]; rfl)
  have e2 : ((win2_5.blk t).view.emb (ix3 0 r s) 2 : Fin 16) = s := Fin.ext (by blk_simp [idx2_5])
  refine Eq.mp (congrFun (congr (congr (congrArg (Counted (V c main_arg0) (V c main_v0) (V c main_v4)) e0) e1) e2).symm _) ?_
  have hl : ∀ l : Fin 128, cnt (fun a : Fin 16 => k2_pay2 (F := Ideal) (grid2.coords t) (iblk2 V c 0 t) (iblk2 V c 1 t) (ix3 r a l)) (k2_pay1 (F := Ideal) (iblk2 V c 2 t) (ix2 r 0))
      = laneCnt (V c main_arg0) (V c main_v0) ((V c main_v4 : FVec Ideal S4096x128 .f32) (ix2 (rowOf (grid2.coords t 0) r) 0)) (rowOf (grid2.coords t 0) r) (grid2.coords t 1) l := fun l => by
    unfold laneCnt
    rw [pay1_apply]
    refine congrArg₂ cnt (funext fun a => ?_) (t2_apply V c t r 0)
    rw [pay2_apply]
    exact blkScore_eq (V c main_arg0) (V c main_v0) _ _ (grid2.coords t 0) (grid2.coords t 1) r a l (fun k => q2_apply V c t r k)
      (fun n k => c2_apply V c t n k)
  unfold out2_5
  rw [View.canon_unit_zero zero3, View.ld_unit_zero zero2, View.ld_unit_zero zero2, View.ld_unit_zero zero2]
  refine ⟨fun hs => ?_, fun hs l => ?_⟩
  · obtain rfl : s = 0 := Fin.ext hs
    refine (congrArg BitVec.toInt (pay92_zero _ _ r)).trans ((block_word _ _ _ _ r).trans ?_)
    exact congrArg Nat.cast (Finset.sum_congr rfl fun l _ => hl l)
  · obtain rfl : s = 1 := Fin.ext hs
    rw [← hl l]
    exact (most_word _ _ _ _ r l).trans (le_of_eq (congrArg BitVec.toInt (pay92_one _ _ r)).symm)

end Cert.KernelIdeal.Hand
-- ==== Proof.Arr3.lean ====
/- The array region 3 leaves: every dot product, candidate or not. -/
module

public import proofs.«01_k».proof.Proof.Score
public import proofs.«01_k».proof.Proof.BodyI3
public import Idealize.ShloMosaic.Lib.Pipeline.ValueKit

@[expose] public section

namespace Cert.KernelIdeal.Hand

open Cert.KernelIdeal.Gen Idealize.ShloMosaic Idealize.ShloMosaic.TcCoe Cert.Rows
open Idealize.ShloMosaic.Pipeline (Dat Cfg Window)

variable (V : (c : Dev nD) → (b : Ref sig .tc) → Buf (Elt Ideal) ((c : Thread nD τ).loc b))

theorem idx3_0 : ∀ t : Fin cfg3.N, win3_0.index t = ![(grid3.coords t 0).val, 0] := (by decide +kernel : ∀ t : Fin grid3.N, _)
theorem idx3_1 : ∀ t : Fin cfg3.N, win3_1.index t = ![(grid3.coords t 1).val, 0] := (by decide +kernel : ∀ t : Fin grid3.N, _)
theorem idx3_2 : ∀ t : Fin cfg3.N, win3_2.index t = ![(grid3.coords t 0).val, (grid3.coords t 1).val] := (by decide +kernel : ∀ t : Fin grid3.N, _)

theorem q3_apply (c : Dev nD) (t : Fin cfg3.N) (r : Fin 512) (k : Fin 128) :
    iblk3 V c 0 t (ix2 r k) = V c main_arg0 (ix2 (rowOf (grid3.coords t 0) r) k) := by
  blk_simp [iblk3]
  refine congrArg _ ?_
  blk_ext [idx3_0]
  rfl

theorem c3_apply (c : Dev nD) (t : Fin cfg3.N) (n : Fin 2048) (k : Fin 128) :
    iblk3 V c 1 t (ix2 n k) = V c main_v0 (ix2 ⟨(grid3.coords t 1).val * 2048 + n.val, by have := (grid3.coords t 1).isLt; have := n.isLt; simp at *; omega⟩ k) := by
  blk_simp [iblk3]
  refine congrArg _ ?_
  blk_ext [idx3_1]

theorem arr3 (c : Dev nD) : (dat3 V c).arrAt 2 cfg3.N
    = (fun i => dotp (V c main_arg0) (V c main_v0) (i 0) (i 1) : FVec Ideal S4096x100352 .f32) := by
  refine (dat3 V c).arrAt_eq_of_covers 2 _ (by decide +kernel) fun t hf y => ?_
  blk_simp
  rw [after3_2]
  frame_out
  obtain ⟨r, l, rfl⟩ : ∃ (r : Fin 512) (l : Fin 2048), y = ix2 r l := ⟨y 0, y 1, (eq_ix2 y)⟩
  have e0 : ((win3_2.blk t).view.emb (ix2 r l) 0 : Fin 4096) = rowOf (grid3.coords t 0) r := Fin.ext (by blk_simp [idx3_2]; rfl)
  have e1 : ((win3_2.blk t).view.emb (ix2 r l) 1 : Fin 100352)
      = ⟨(grid3.coords t 1).val * 2048 + l.val, by have := (grid3.coords t 1).isLt; have := l.isLt; simp at *; omega⟩ := Fin.ext (by blk_simp [idx3_2])
  refine (pay31_apply _ _ r l).trans ?_
  refine Eq.trans ?_ (congrArg₂ (dotp (V c main_arg0) (V c main_v0)) e0 e1).symm
  unfold dotp
  refine Finset.sum_congr rfl fun k _ => ?_
  rw [q3_apply, c3_apply]
  rfl

end Cert.KernelIdeal.Hand
-- ==== Proof.Whole.lean ====
/- The buffers the kernel ends with, off its two arguments: each region's array taken through the host operations to the results. -/
module

public import proofs.«01_k».proof.Proof.Host2
public import proofs.«01_k».proof.Proof.Arr0
public import proofs.«01_k».proof.Proof.Arr1
public import proofs.«01_k».proof.Proof.Arr2
public import proofs.«01_k».proof.Proof.Arr3

@[expose] public section

namespace Cert.KernelIdeal.Hand

open Cert.KernelIdeal.Gen Idealize.ShloMosaic Idealize.ShloMosaic.TcCoe Cert.Rows

variable (m : (ℓ : Loc nD τ sig) → Buf (Elt Ideal) ℓ) (ρ : Dev nD → PrngReg) (c : Dev nD)

/-- The queries and the candidates, the padded candidates, the thresholds and the counts. -/
def qry : FVec Ideal S4096x128 .f32 := m ((c : Thread nD τ).loc main_arg0)
def cand : FVec Ideal S100000x128 .f32 := m ((c : Thread nD τ).loc main_arg1)
noncomputable def pool : FVec Ideal S100352x128 .f32 := W2 m ρ c (Proc.devRef .tc main_v0)
noncomputable def thres : FVec Ideal S4096x128 .f32 := W5 m ρ c (Proc.devRef .tc main_v4)
noncomputable def counts : IVec S49x4096x16 32 := W6 m ρ c (Proc.devRef .tc main_v5_2)

theorem pool_at (n : Fin 100352) (h : n.val < 100000) (k : Fin 128) : pool m ρ c (ix2 n k) = cand m c (ix2 ⟨n.val, h⟩ k) := by
  have e : pool m ρ c = padded (W1 m ρ c (Proc.devRef .tc main_arg1)) (W1 m ρ c (Proc.devRef .tc main_c)) := read_v0 (W1 m ρ c)
  rw [e, padded_at _ _ n h k]
  exact congrFun (W1_args m ρ c main_arg1 (by simp)) _

theorem v0_3 : W3 m ρ c (Proc.devRef .tc main_v0) = W2 m ρ c (Proc.devRef .tc main_v0) := W3_of m ρ c main_v0 (by decide +kernel)
theorem v0_4 : W4 m ρ c (Proc.devRef .tc main_v0) = W2 m ρ c (Proc.devRef .tc main_v0) := (W4_of m ρ c main_v0 (by decide +kernel)).trans (v0_3 m ρ c)
theorem v0_5 : W5 m ρ c (Proc.devRef .tc main_v0) = W2 m ρ c (Proc.devRef .tc main_v0) := (W5_of m ρ c main_v0 (by decide +kernel)).trans (v0_4 m ρ c)
theorem v0_6 : W6 m ρ c (Proc.devRef .tc main_v0) = W2 m ρ c (Proc.devRef .tc main_v0) := (W6_of m ρ c main_v0 (by decide +kernel)).trans (v0_5 m ρ c)
theorem v0_7 : W7 m ρ c (Proc.devRef .tc main_v0) = W2 m ρ c (Proc.devRef .tc main_v0) := (W7_of m ρ c main_v0 (by decide +kernel)).trans (v0_6 m ρ c)
theorem v0_8 : W8 m ρ c (Proc.devRef .tc main_v0) = W2 m ρ c (Proc.devRef .tc main_v0) := (W8_of m ρ c main_v0 (by decide +kernel)).trans (v0_7 m ρ c)

theorem groups_eq : W3 m ρ c (Proc.devRef .tc main_v1) = grp (qry m c) (pool m ρ c) := by
  refine (W3_arr m ρ c 2).trans ((arr0 (V2 m ρ) c).trans ?_)
  exact congrArg (fun q => grp q (pool m ρ c)) (W2_args m ρ c main_arg0 (by simp))

theorem thres_reached (R : Fin 4096) : Reached (grp (qry m c) (pool m ρ c)) R (thres m ρ c (ix2 R 0)) := by
  have h := arr1 (V3 m ρ) c (ix2 R 0)
  have e : thres m ρ c (ix2 R 0) = (dat1 (V3 m ρ) c).arrAt 1 cfg1.N (ix2 R 0) :=
    ((congrFun (read_v4 (W4 m ρ c)) (ix2 R 0)).trans (spread_at _ R 0)).trans (congrFun (W4_arr m ρ c 1) (ix2 R 0))
  rw [e]
  rw [show V3 m ρ c main_v1 = grp (qry m c) (pool m ρ c) from groups_eq m ρ c] at h
  exact h

theorem picks_eq : W6 m ρ c (Proc.devRef .tc main_v5_0) = picks (qry m c) (pool m ρ c) (thres m ρ c) := by
  refine (W6_arr m ρ c 3).trans ((arr2_3 (V5 m ρ) c).trans ?_)
  exact congrFun (congr (congrArg picks (W5_args m ρ c main_arg0 (by simp))) (v0_5 m ρ c)) (thres m ρ c)

theorem pickIds_eq : W6 m ρ c (Proc.devRef .tc main_v5_1) = pickIds (qry m c) (pool m ρ c) (thres m ρ c) := by
  refine (W6_arr m ρ c 4).trans ((arr2_4 (V5 m ρ) c).trans ?_)
  exact congrFun (congr (congrArg pickIds (W5_args m ρ c main_arg0 (by simp))) (v0_5 m ρ c)) (thres m ρ c)

theorem counted (y : S49x4096x16.Idx) : Counted (qry m c) (pool m ρ c) (thres m ρ c) (y 0) (y 1) (y 2) (counts m ρ c y) := by
  have h := arr2_5 (V5 m ρ) c y
  rw [show counts m ρ c = (dat2 (V5 m ρ) c).arrAt 5 cfg2.N from W6_arr m ρ c 5]
  rw [show V5 m ρ c main_arg0 = qry m c from W5_args m ρ c main_arg0 (by simp), show V5 m ρ c main_v0 = pool m ρ c from v0_5 m ρ c] at h
  exact h

/-- The row of picked scores and of picked ids the first arm starts from. -/
theorem v7_eq : W8 m ρ c (Proc.devRef .tc main_v7) = flat (picks (qry m c) (pool m ρ c) (thres m ρ c)) := by
  refine (W8_of m ρ c main_v7 (by decide +kernel)).trans ((read_v7 (W6 m ρ c)).trans ?_)
  exact congrArg flat (picks_eq m ρ c)
theorem v9_eq : W8 m ρ c (Proc.devRef .tc main_v9) = flat (pickIds (qry m c) (pool m ρ c) (thres m ρ c)) := by
  refine (W8_of m ρ c main_v9 (by decide +kernel)).trans ((read_v9 (W6 m ρ c)).trans ?_)
  exact congrArg flat (pickIds_eq m ρ c)

theorem word_eq : word m ρ c = (overflow (counts m ρ c) HostLoop.idx0).setWidth 32 := by
  have e : W8 m ρ c (Proc.devRef .tc main_v19) = (extui 32 (W7 m ρ c (Proc.devRef .tc main_v18) : IVec S_ 1) natLt_1_32 : IVec S_ 32) := read_v19 (W7 m ρ c)
  have e' : W7 m ρ c (Proc.devRef .tc main_v18) = overflow (counts m ρ c) := read_v18 (W6 m ρ c)
  unfold word
  rw [e, e']
  rfl

theorem branch_calm : ∀ b : BitVec 1, HostLoop.branch (b.setWidth 32) 1 = 0 → b ≠ 1#1 := by decide

/-- All scores, without the padding. -/
noncomputable def allScores : FVec Ideal S4096x100000 .f32 :=
  cropped fun i => dotp (qry m c) (pool m ρ c) (i 0) (i 1)

theorem v21_eq : W9 m ρ c (Proc.devRef .tc main_case0b1_v21) = (fun i => dotp (qry m c) (pool m ρ c) (i 0) (i 1) : FVec Ideal S4096x100352 .f32) := by
  refine (W9_arr m ρ c 2).trans ((arr3 (V8 m ρ) c).trans ?_)
  rw [show V8 m ρ c main_arg0 = qry m c from W8_args m ρ c main_arg0 (by simp), show V8 m ρ c main_v0 = pool m ρ c from v0_8 m ρ c]

/-- The results: the best of the picked scores and their ids where no count overflows, the best of all scores and their places otherwise. -/
theorem results :
    (overflow (counts m ρ c) HostLoop.idx0 ≠ 1#1
      ∧ WE m ρ c (Proc.devRef .tc main_v20_0) = (best (flat (picks (qry m c) (pool m ρ c) (thres m ρ c)))).1
      ∧ WE m ρ c (Proc.devRef .tc main_v20_1) = taken (flat (pickIds (qry m c) (pool m ρ c) (thres m ρ c))) (best (flat (picks (qry m c) (pool m ρ c) (thres m ρ c)))).2)
    ∨ (WE m ρ c (Proc.devRef .tc main_v20_0) = (bestAll (allScores m ρ c)).1 ∧ WE m ρ c (Proc.devRef .tc main_v20_1) = (bestAll (allScores m ρ c)).2) := by
  have hb := word_eq m ρ c
  unfold WE
  generalize hB : HostLoop.branch (word m ρ c) 1 = b
  rw [hb] at hB
  match b, hB with
  | 0, hB =>
    refine Or.inl ⟨branch_calm _ hB, ?_, ?_⟩
    · refine (read_arm0_values (W8 m ρ c)).trans ?_
      exact congrArg (fun u => (best u).1) (v7_eq m ρ c)
    · refine (read_arm0_ids (W8 m ρ c)).trans ?_
      exact congr (congrArg taken (v9_eq m ρ c)) (congrArg (fun u => (best u).2) (v7_eq m ρ c))
  | 1, _ =>
    refine Or.inr ⟨?_, ?_⟩
    · refine (read_arm1_values (W9 m ρ c)).trans ?_
      exact congrArg (fun u => (bestAll (cropped u)).1) (v21_eq m ρ c)
    · refine (read_arm1_ids (W9 m ρ c)).trans ?_
      exact congrArg (fun u => (bestAll (cropped u)).2) (v21_eq m ρ c)

end Cert.KernelIdeal.Hand
-- ==== Proof.Equal.lean ====
/- The picked scores of a row against all its scores: where no count overflows they agree, entry by entry, at the first hundred places of the
   sorted rows; and each pick carries the id of a candidate with that score. -/
module

public import proofs.«01_k».proof.Proof.Host2
public import proofs.«01_k».proof.Proof.Arr0
public import proofs.«01_k».proof.Proof.Arr1
public import proofs.«01_k».proof.Proof.Arr2

@[expose] public section

namespace Cert.KernelIdeal.Hand

open Cert.KernelIdeal.Gen Idealize.ShloMosaic Idealize.ShloMosaic.TcCoe Cert.Rows

/-- The places, as block, lane and sub-row. -/
def placeEquiv : Fin 49 × Fin 128 × Fin 16 ≃ Fin 100352 where
  toFun p := place p.1 p.2.2 p.2.1
  invFun n := (⟨n.val / 2048, by have := n.isLt; omega⟩, ⟨n.val % 128, Nat.mod_lt _ (by norm_num)⟩, ⟨n.val / 128 % 16, Nat.mod_lt _ (by norm_num)⟩)
  left_inv p := by
    obtain ⟨j, l, a⟩ := p
    have := l.isLt; have := a.isLt
    refine Prod.ext (Fin.ext ?_) (Prod.ext (Fin.ext ?_) (Fin.ext ?_)) <;> simp only [place] <;> omega
  right_inv n := Fin.ext (by simp only [place]; omega)

/-- The columns of the picked row, as block and slot. -/
def slotEquiv : Fin 49 × Fin 16 ≃ Fin 784 where
  toFun p := ⟨p.1.val * 16 + p.2.val, by have := p.1.isLt; have := p.2.isLt; omega⟩
  invFun q := (⟨q.val / 16, by have := q.isLt; omega⟩, ⟨q.val % 16, Nat.mod_lt _ (by norm_num)⟩)
  left_inv p := by
    obtain ⟨j, s⟩ := p
    have := s.isLt
    refine Prod.ext (Fin.ext ?_) (Fin.ext ?_) <;> dsimp only <;> omega
  right_inv q := Fin.ext (by dsimp only; omega)

variable (Q : FVec Ideal S4096x128 .f32) (C : FVec Ideal S100352x128 .f32) (T : FVec Ideal S4096x128 .f32) (R : Fin 4096)

/-- The row of all scores. -/
noncomputable def full : Fin 100000 → EReal := fun n => dotp Q C R (n.castLE (by norm_num))

/-- The row of picked scores, and of their ids. -/
noncomputable def pickRow : Fin 784 → EReal := fun q => flat (picks Q C T) (ix2 R q)
noncomputable def idRow : Fin 784 → BitVec 32 := fun q => flat (pickIds Q C T) (ix2 R q)

theorem pickRow_eq (q : Fin 784) : pickRow Q C T R q = pickAt Q C T (slotEquiv.symm q).1 R (slotEquiv.symm q).2 := flat_at _ R q
theorem idRow_eq (q : Fin 784) : idRow Q C T R q = pickIdAt Q C T (slotEquiv.symm q).1 R (slotEquiv.symm q).2 := flat_at _ R q

/-- The scores of a row that reach a level, lane by lane. -/
theorem cnt_score (v : EReal) : cnt (score Q C R) v = ∑ j, ∑ l, laneCnt Q C v R j l := by
  rw [← cnt_equiv placeEquiv, cnt_prod]
  refine Finset.sum_congr rfl fun j _ => ?_
  rw [cnt_prod]
  rfl

/-- Above the bottom the padding counts for nothing. -/
theorem cnt_full (v : EReal) (hv : ⊥ < v) : cnt (score Q C R) v = cnt (full Q C R) v := by
  classical
  unfold cnt
  refine (Finset.card_bij (fun (n : Fin 100000) _ => n.castLE (by norm_num)) ?_ ?_ ?_).symm
  · intro n hn
    rw [Finset.mem_filter] at hn ⊢
    refine ⟨Finset.mem_univ _, ?_⟩
    unfold score
    rw [if_pos (show (Fin.castLE (by norm_num : 100000 ≤ 100352) n).val < 100000 from n.isLt)]
    exact hn.2
  · intro a _ b _ h
    exact Fin.castLE_injective _ h
  · intro n hn
    rw [Finset.mem_filter] at hn
    have h : n.val < 100000 := by
      by_contra h
      have h2 := hn.2
      unfold score at h2
      rw [if_neg h] at h2
      exact absurd h2 (not_le.mpr hv)
    refine ⟨⟨n.val, h⟩, ?_, Fin.ext rfl⟩
    rw [Finset.mem_filter]
    refine ⟨Finset.mem_univ _, ?_⟩
    have h2 := hn.2
    unfold score at h2
    rw [if_pos h] at h2
    exact h2

/-- Each group that reaches a level holds a score that does, groups apart. -/
theorem cnt_groups (v : EReal) (hv : ⊥ < v) (h : Reached (grp Q C) R v) : 100 ≤ cnt (score Q C R) v := by
  classical
  refine h.trans ?_
  have key : ∀ k : Fin 6272, ∃ a : Fin 16, v ≤ grp Q C (ix2 R k) → v ≤ score Q C R (place (colBlk k) a (colLane k)) := by
    intro k
    by_cases hk : v ≤ grp Q C (ix2 R k)
    · have hk' : v ≤ group Q C R (colBlk k) (colLane k) := hk
      rcases foldMax_attained (fun a : Fin 16 => score Q C R (place (colBlk k) a (colLane k))) with ⟨a, ha⟩
      refine ⟨a, fun _ => hk'.trans (le_of_eq ?_)⟩
      exact ha.symm
    · exact ⟨0, fun h => absurd h hk⟩
  choose a ha using key
  unfold cnt
  refine Finset.card_le_card_of_injOn (fun k => place (colBlk k) (a k) (colLane k)) ?_ ?_
  · intro k hk
    have hk' : v ≤ grp Q C (ix2 R k) := (Finset.mem_filter.mp hk).2
    exact Finset.mem_coe.mpr (Finset.mem_filter.mpr ⟨Finset.mem_univ _, ha k hk'⟩)
  · intro k _ k' _ hkk
    have e := congrArg Fin.val hkk
    have := (a k).isLt; have := (a k').isLt
    simp only [place, colBlk, colLane] at e
    exact Fin.ext (by omega)

/-- No block and no lane of the row holds more scores at or above its threshold than the kernel keeps. -/
def Fits : Prop := ∀ j : Fin 49, (∑ l, laneCnt Q C (T (ix2 R 0)) R j l) ≤ 16 ∧ ∀ l, laneCnt Q C (T (ix2 R 0)) R j l ≤ 4

theorem fits_of (N : IVec S49x4096x16 32) (hN : ∀ y : S49x4096x16.Idx, Counted Q C T (y 0) (y 1) (y 2) (N y)) (i : S_.Idx) (h : overflow N i ≠ 1#1) :
    Fits Q C T R := by
  intro j
  obtain ⟨h0, h1⟩ := calm N i h j R
  have c0 := (hN (ix3 j R 0)).1 rfl
  have c1 := (hN (ix3 j R 1)).2 rfl
  change (N (ix3 j R 0)).toInt = ((∑ l, laneCnt Q C (T (ix2 R 0)) R j l : Nat) : Int) at c0
  change ∀ l, (laneCnt Q C (T (ix2 R 0)) R j l : Int) ≤ (N (ix3 j R 1)).toInt at c1
  refine ⟨by omega, fun l => by have := c1 l; omega⟩

/-- Then the threshold is above the bottom: every score reaches the bottom. -/
theorem fits_pos (h : Fits Q C T R) : ⊥ < T (ix2 R 0) := by
  rw [bot_lt_iff_ne_bot]
  intro e
  have h0 := (h 0).2 0
  rw [e] at h0
  unfold laneCnt at h0
  rw [cnt_bot, Fintype.card_fin] at h0
  omega

theorem pick_cnt (h : Fits Q C T R) (v : EReal) (hv : T (ix2 R 0) ≤ v) : cnt (pickRow Q C T R) v = cnt (full Q C R) v := by
  have hT := fits_pos Q C T R h
  rw [← cnt_full Q C R v (hT.trans_le hv), cnt_score]
  rw [← cnt_equiv slotEquiv, cnt_prod]
  refine Finset.sum_congr rfl fun j _ => ?_
  have e : ∀ s : Fin 16, pickRow Q C T R (slotEquiv (j, s)) = pickAt Q C T j R s := by
    intro s
    rw [pickRow_eq, Equiv.symm_apply_apply]
  refine (congrArg (fun x => cnt x v) (funext e)).trans ?_
  have ew : ∀ a l, wBlk Q C (rowBlk R) j (ix3 (rowIn R) a l) = score Q C R (place j a l) := fun a l =>
    congrArg (fun R' => score Q C R' (place j a l)) (rowOf_split R)
  have et : tBlk T (rowBlk R) (ix2 (rowIn R) 0) = T (ix2 R 0) := congrArg (fun R' => T (ix2 R' 0)) (rowOf_split R)
  have el : ∀ v l, cnt (fun a => wBlk Q C (rowBlk R) j (ix3 (rowIn R) a l)) v = laneCnt Q C v R j l := fun v l =>
    congrArg (fun x => cnt x v) (funext fun a => ew a l)
  have hb := blockV_cnt (tBlk T (rowBlk R)) (wBlk Q C (rowBlk R) j) (rowIn R) (lt_of_lt_of_eq hT et.symm)
    (fun l => by rw [el, et]; exact (h j).2 l) (by rw [Finset.sum_congr rfl fun l _ => el _ l, et]; exact (h j).1) v (le_of_eq_of_le et hv)
  exact hb.trans (Finset.sum_congr rfl fun l _ => el v l)

/-- The first hundred picks in order are the first hundred scores in order, all above the bottom. -/
theorem pick_best (h : Fits Q C T R) (hr : Reached (grp Q C) R (T (ix2 R 0))) (k : Fin 100) :
    pickRow Q C T R (places (pickRow Q C T R) (k.castLE (by norm_num))) = full Q C R (places (full Q C R) (k.castLE (by norm_num)))
    ∧ ⊥ < pickRow Q C T R (places (pickRow Q C T R) (k.castLE (by norm_num))) := by
  have hT := fits_pos Q C T R h
  have hc : 100 ≤ cnt (pickRow Q C T R) (T (ix2 R 0)) := by
    rw [pick_cnt Q C T R h _ le_rfl, ← cnt_full Q C R _ hT]
    exact cnt_groups Q C R _ hT hr
  have := places_eq (pickRow Q C T R) (full Q C R) (T (ix2 R 0)) (fun v hv => pick_cnt Q C T R h v hv) (k.castLE (by norm_num)) (k.castLE (by norm_num)) rfl
    (lt_of_lt_of_le k.isLt hc)
  exact ⟨this.1, hT.trans_le this.2⟩

/-- A pick above the bottom is a candidate's score, and its id names that candidate. -/
theorem pick_source (q : Fin 784) (h : ⊥ < pickRow Q C T R q) : ∃ n : Fin 100000, pickRow Q C T R q = full Q C R n ∧ idRow Q C T R q = BitVec.ofNat 32 n.val := by
  rw [pickRow_eq] at h ⊢
  rw [idRow_eq]
  generalize (slotEquiv.symm q).1 = j at h ⊢
  generalize (slotEquiv.symm q).2 = s at h ⊢
  obtain ⟨a, l, hv, hi⟩ := blockI_source (BitVec.ofNat 32 j.val) (tBlk T (rowBlk R)) (wBlk Q C (rowBlk R) j) (rowIn R) s h.ne'
  have ew : wBlk Q C (rowBlk R) j (ix3 (rowIn R) a l) = score Q C R (place j a l) := congrArg (fun R' => score Q C R' (place j a l)) (rowOf_split R)
  have hv' : pickAt Q C T j R s = score Q C R (place j a l) := hv.trans ew
  have hn : (place j a l).val < 100000 := by
    by_contra hn
    rw [hv'] at h
    unfold score at h
    rw [if_neg hn] at h
    exact lt_irrefl _ h
  refine ⟨⟨(place j a l).val, hn⟩, ?_, ?_⟩
  · rw [hv']
    unfold score
    rw [if_pos hn]
    rfl
  · exact hi.trans (id_word _ _ _)

end Cert.KernelIdeal.Hand
-- ==== Proof.Mask.lean ====
/- The reference's hundred best of a row, and what the mask says of an entry: where it is set, one candidate alone has the entry's score. -/
module

public import proofs.«01_k».proof.On_untied
public import proofs.«01_k».proof.Proof.Gen.ReferenceIdeal
public import proofs.«01_k».proof.Proof.Top
public import proofs.«01_k».proof.Proof.Folds
public import proofs.«01_k».proof.Proof.Read2

@[expose] public section

namespace Cert.Untied

open Idealize.ShloMosaic Idealize.ShloMosaic.TcCoe Cert.Rows Cert.KernelIdeal.Hand

/-- The mask's shape facts. -/
instance maskFacts : Cert.On_untied.Facts where
  transposes_S100000x128_S128x100000_1_0 := by decide
  sliceFits_S4096x100000_S4096x100 := by decide
  bcast_S4096x100000_S4096x1x100000_0_2 := by decide
  bcast_S4096x100_S4096x100x1_0_1 := by decide
  bcast_S4096x1x100000_S4096x100x100000_0_1_2 := by decide
  bcast_S4096x100x1_S4096x100x100000_0_1_2 := by decide
  natLt_1_32 := by decide
  reducesTo_S4096x100x100000_S4096x100_d2 := by decide
  h_S_ := by decide
  bcast_S_S4096x100 := by decide
  dot_S4096x128_S128x100000_S4096x100000_1_0_0_1_n_n_wf := by decide

open Cert.On_untied

/-- All scores, as the reference takes them. -/
noncomputable def scores (Q : FVec Ideal S4096x128 .f32) (A : FVec Ideal S100000x128 .f32) : FVec Ideal S4096x100000 .f32 :=
  Host.dotGeneral dot_S4096x128_S128x100000_S4096x100000_1_0_0_1_n_n none Q (transpose S128x100000 [1, 0] A Facts.transposes_S100000x128_S128x100000_1_0)

theorem scores_at (Q : FVec Ideal S4096x128 .f32) (A : FVec Ideal S100000x128 .f32) (R : Fin 4096) (n : Fin 100000) :
    scores Q A (ix2 R n) = ∑ k : Fin 128, Q (ix2 R k) * A (ix2 n k) := by
  unfold scores
  pointwise

/-- What the mask's second array counts: the candidates with the entry's score. -/
theorem mask_two (Q : FVec Ideal S4096x128 .f32) (A : FVec Ideal S100000x128 .f32) (R : Fin 4096) (k : Fin 100)
    (h : (fn (F := Ideal) Q A).2 (ix2 R k) = 1#1) (a b : Fin 100000)
    (ha : row (scores Q A) R a = row (scores Q A) R (places (row (scores Q A) R) (k.castLE (by norm_num))))
    (hb : row (scores Q A) R b = row (scores Q A) R (places (row (scores Q A) R) (k.castLE (by norm_num)))) : a = b := by
  unfold fn at h
  dsimp only at h
  change (cmpi .eq (Host.reduce IntOp.addi (extui 32 (cmpf .oeq
      (broadcastInDim S4096x100x100000 ![0, 1, 2] _ (broadcastInDim S4096x1x100000 ![0, 2] _ (scores Q A)))
      (broadcastInDim S4096x100x100000 ![0, 1, 2] _ (broadcastInDim S4096x100x1 ![0, 1] _
        (Host.topK S4096x100 1 (FloatOps.cmpfTotal .gt) (scores Q A) _).1))) _)
      (constantI S_ 32 0#32) _ _) (broadcastInDim S4096x100 ![] _ (constantI S_ 32 1#32))) (ix2 R k) = 1#1 at h
  generalize hx : scores Q A = x at h ha hb
  have hk := (topK_at x Facts.sliceFits_S4096x100000_S4096x100 (by norm_num) R k).1
  generalize (Host.topK S4096x100 1 (FloatOps.cmpfTotal (F := Ideal) (φ := .f32) .gt) x Facts.sliceFits_S4096x100000_S4096x100).1 = w at h hk
  revert h
  pointwise
  intro h
  classical
  have hc := foldAdd_count (fun n : Fin 100000 => BitVec.setWidth 32 (BitVec.ofBool (decide (x (ix2 R n) = w (ix2 R k))))) (fun n => x (ix2 R n) = w (ix2 R k))
    (fun n => by by_cases hn : x (ix2 R n) = w (ix2 R k) <;> simp [hn]) (by rw [Fintype.card_fin]; norm_num)
  rw [cmpi_eq_ite, ite_bit] at h
  have h' : (Finset.univ : Finset (Fin 100000)).fold IntOp.addi 0#32 (fun n => BitVec.setWidth 32 (BitVec.ofBool (decide (x (ix2 R n) = w (ix2 R k))))) = 1#32 := by
    refine Eq.trans ?_ h
    refine congrArg (fun q => (Finset.univ : Finset (Fin 100000)).fold IntOp.addi 0#32 q) (funext fun n => ?_)
    exact congrArg (fun b => BitVec.setWidth 32 (BitVec.ofBool b)) (decide_eq_decide.mpr Iff.rfl)
  rw [h'] at hc
  have h1 : (Finset.univ.filter fun n : Fin 100000 => x (ix2 R n) = w (ix2 R k)).card ≤ 1 := le_of_eq (by rw [← hc]; rfl)
  exact Finset.card_le_one.mp h1 a (Finset.mem_filter.mpr ⟨Finset.mem_univ _, ha.trans hk.symm⟩) b (Finset.mem_filter.mpr ⟨Finset.mem_univ _, hb.trans hk.symm⟩)

end Cert.Untied
-- ==== Proof.Final.lean ====
/- The kernel's results are the reference's: the values everywhere, the ids wherever the mask is set. -/
module

public import proofs.«01_k».proof.Proof.Whole
public import proofs.«01_k».proof.Proof.Equal
public import proofs.«01_k».proof.Proof.Mask

@[expose] public section

namespace Cert.Untied

open Idealize.ShloMosaic Idealize.ShloMosaic.TcCoe Cert.Rows Cert.KernelIdeal Cert.KernelIdeal.Hand

variable (m : (ℓ : Loc nD τ sig) → Buf (Elt Ideal) ℓ) (ρ : Dev nD → PrngReg) (c : Dev nD)

/-- The reference's results. -/
noncomputable def refBest (Q : FVec Ideal S4096x128 .f32) (A : FVec Ideal S100000x128 .f32) : FVec Ideal S4096x100 .f32 × IVec S4096x100 32 :=
  Host.topK S4096x100 1 (FloatOps.cmpfTotal .gt) (scores Q A) On_untied.Facts.sliceFits_S4096x100000_S4096x100

/-- The scores against the padded candidates are the scores against the candidates. -/
theorem row_scores (R : Fin 4096) : row (scores (qry m c) (cand m c)) R = full (qry m c) (pool m ρ c) R := by
  funext n
  refine (scores_at _ _ R n).trans ?_
  unfold full dotp
  refine Finset.sum_congr rfl fun k _ => ?_
  rw [pool_at m ρ c (n.castLE (by norm_num)) n.isLt k]
  rfl

theorem allScores_eq : allScores m ρ c = scores (qry m c) (cand m c) := by
  funext y
  obtain ⟨R, n, rfl⟩ : ∃ (R : Fin 4096) (n : Fin 100000), y = ix2 R n := ⟨y 0, y 1, eq_ix2 y⟩
  refine Eq.trans ?_ (congrFun (row_scores m ρ c R) n).symm
  exact cropped_at _ R n

theorem values_eq (R : Fin 4096) (k : Fin 100) :
    WE m ρ c (Proc.devRef .tc main_v20_0) (ix2 R k) = (refBest (qry m c) (cand m c)).1 (ix2 R k) := by
  rcases results m ρ c with ⟨h, hv, -⟩ | ⟨hv, -⟩
  · rw [hv]
    have hf := fits_of (qry m c) (pool m ρ c) (thres m ρ c) R (counts m ρ c) (counted m ρ c) _ h
    refine (topK_at _ _ (by norm_num) R k).1.trans ((pick_best _ _ _ R hf (thres_reached m ρ c R) k).1.trans ?_)
    rw [← row_scores]
    exact (topK_at _ _ (by norm_num) R k).1.symm
  · rw [hv, allScores_eq]
    rfl

theorem ids_eq (R : Fin 4096) (k : Fin 100) (hm : (On_untied.fn (F := Ideal) (qry m c) (cand m c)).2 (ix2 R k) = 1#1) :
    WE m ρ c (Proc.devRef .tc main_v20_1) (ix2 R k) = (refBest (qry m c) (cand m c)).2 (ix2 R k) := by
  rcases results m ρ c with ⟨h, -, hi⟩ | ⟨-, hi⟩
  · rw [hi]
    have hf := fits_of (qry m c) (pool m ρ c) (thres m ρ c) R (counts m ρ c) (counted m ρ c) _ h
    obtain ⟨hb, hp⟩ := pick_best _ _ _ R hf (thres_reached m ρ c R) k
    obtain ⟨n, hn, hid⟩ := pick_source _ _ _ R _ hp
    refine (taken_at _ _ R k _ (topK_at _ _ (by norm_num) R k).2).trans (hid.trans ?_)
    refine Eq.trans (congrArg (fun n : Fin 100000 => BitVec.ofNat 32 n.val) ?_) (topK_at _ _ (by norm_num) R k).2.symm
    refine mask_two (qry m c) (cand m c) R k hm _ _ ?_ rfl
    rw [row_scores m ρ c R]
    exact hn.symm.trans hb
  · rw [hi, allScores_eq]
    rfl

end Cert.Untied
-- ==== Proof.lean ====
/- The certificate: the three programs run, end with their arguments unchanged and every counter at zero, and the kernel's results are the
   reference's over the extended reals, the ids wherever the mask is set. -/
module

public import proofs.«01_k».proof.Defs
public import proofs.«01_k».proof.Proof.RunK
public import proofs.«01_k».proof.Proof.RunI
public import proofs.«01_k».proof.Proof.Final
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-- The reference has no counter at all. -/
theorem no_counter : IsEmpty (SemLoc Cert.ReferenceIdeal.sig) := Fintype.card_eq_zero_iff.mp (by decide)

/-- The reference ends with its arguments as launched. -/
theorem ref_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun _ h => ⟨fun c => ⟨(h c).2.2.1, (h c).2.2.2⟩, funext fun g => no_counter.elim g.2⟩) (Cert.ReferenceIdeal.Value.run m ρ)

open Cert.KernelIdeal Cert.KernelIdeal.Hand in
/-- The kernel ends with the buffers `WE`, its arguments as launched. -/
theorem kernel_run (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v20_0) = WE m ρ c (Proc.devRef .tc main_v20_0)
      ∧ r.2.mem ((c.tc : Thread nD τ).loc main_v20_1) = WE m ρ c (Proc.devRef .tc main_v20_1)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => ⟨h.1 c _ (mem_uc main_v20_0 (by decide)), h.1 c _ (mem_uc main_v20_1 (by decide)),
    (h.1 c _ (mem_uc main_arg0 (by decide))).trans (WE_args m ρ c main_arg0 (by simp)),
    (h.1 c _ (mem_uc main_arg1 (by decide))).trans (WE_args m ρ c main_arg1 (by simp))⟩) (run m ρ)

/-- The reference ends with its hundred best. -/
theorem reference_run (m : (ℓ : Loc Cert.ReferenceIdeal.nD Cert.ReferenceIdeal.τ Cert.ReferenceIdeal.sig) → Buf (Elt Ideal) ℓ) (ρ : Dev Cert.ReferenceIdeal.nD → PrngReg)
    (Q : Dev Cert.ReferenceIdeal.nD → FVec Ideal Cert.ReferenceIdeal.S4096x128 .f32) (A : Dev Cert.ReferenceIdeal.nD → FVec Ideal Cert.ReferenceIdeal.S100000x128 .f32)
    (hQ : ∀ c : Dev Cert.ReferenceIdeal.nD, m ((c.tc : Thread Cert.ReferenceIdeal.nD Cert.ReferenceIdeal.τ).loc Cert.ReferenceIdeal.main_arg0) = Q c)
    (hA : ∀ c : Dev Cert.ReferenceIdeal.nD, m ((c.tc : Thread Cert.ReferenceIdeal.nD Cert.ReferenceIdeal.τ).loc Cert.ReferenceIdeal.main_arg1) = A c) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_values) = (Cert.Untied.refBest (Q c) (A c)).1
      ∧ r.2.mem ((c.tc : Thread Cert.ReferenceIdeal.nD Cert.ReferenceIdeal.τ).loc Cert.ReferenceIdeal.main_indices) = (Cert.Untied.refBest (Q c) (A c)).2
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) := by
  refine (θ_run _ _ _).mono (fun r h c => ?_) (Cert.ReferenceIdeal.Value.run m ρ)
  obtain ⟨h0, h1, h2, h3⟩ := h c
  refine ⟨?_, ?_, h2, h3⟩
  · rw [hQ c, hA c] at h0
    exact h0
  · rw [hQ c, hA c] at h1
    exact h1

/-- The kernel against the reference, where the mask is set. -/
theorem equal : Cert.algebraic_KernelIdeal_ReferenceIdeal_on_untied := by
  intro m g m' g' _ hargs
  refine ⟨fun c => Cert.KernelIdeal.Hand.WE m g c (Proc.devRef .tc Cert.KernelIdeal.main_v20_0),
    fun c => Cert.KernelIdeal.Hand.WE m g c (Proc.devRef .tc Cert.KernelIdeal.main_v20_1), ?_, ?_⟩
  · refine (θ_run _ _ _).mono (fun r h c => ?_) (kernel_run m g)
    obtain ⟨h0, h1, h2, h3⟩ := h c
    exact ⟨fun i _ => congrFun h0 i, fun i _ => congrFun h1 i, h2, h3⟩
  · refine (θ_run _ _ _).mono (fun r h c => ?_) (reference_run m' g' (fun c => Cert.KernelIdeal.Hand.qry m c) (fun c => Cert.KernelIdeal.Hand.cand m c)
      (fun c => (hargs c).1) (fun c => (hargs c).2))
    obtain ⟨h0, h1, h2, h3⟩ := h c
    refine ⟨fun i _ => ?_, fun i hm => ?_, h2, h3⟩
    · obtain ⟨R, k, rfl⟩ : ∃ (R : Fin 4096) (k : Fin 100), i = ix2 R k := ⟨i 0, i 1, eq_ix2 i⟩
      exact (congrFun h0 _).trans (Cert.Untied.values_eq m g c R k).symm
    · obtain ⟨R, k, rfl⟩ : ∃ (R : Fin 4096) (k : Fin 100), i = ix2 R k := ⟨i 0, i 1, eq_ix2 i⟩
      exact (congrFun h1 _).trans (Cert.Untied.ids_eq m g c R k hm).symm

theorem claim : Cert.Claim := ⟨Cert.Kernel.Gen.facts, Cert.KernelIdeal.Gen.facts, Cert.ReferenceIdeal.Gen.facts, Cert.Untied.maskFacts,
  fun m ρ _ => Cert.Kernel.Hand.frame m ρ, fun m ρ _ => Cert.KernelIdeal.Hand.frame m ρ,
  fun m ρ _ => ref_frame m ρ, trivial, equal⟩

end Cert.Proof

end
